-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![2048, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S128x256 : Shape := ⟨2, ![128, 256]⟩
abbrev S_ : Shape := ⟨0, ![]⟩

class Facts : Prop where
  bcast_S_S256x128 : S_.BroadcastsInDim S256x128 (![] : Fin 0 → Fin S256x128.rank)
  bcast_S_S128x16 : S_.BroadcastsInDim S128x16 (![] : Fin 0 → Fin S128x16.rank)

variable [Facts]

def fn {F : FTy → Type} [FloatOps F] (main_arg0 : FVec F S256x128 .f32) (main_arg1 : FVec F S128x16 .f32) (main_arg2 : IVec S256x1 32) (main_arg3 : FVec F S2x128x256 .f32) (main_arg4 : FVec F S128x256 .f32) : IVec S256x128 1 × IVec S128x16 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_v3 : FVec F S128x16 .f32 := Host.absf main_arg1
  let main_cst_0 : FVec F S_ .f32 := constant S_ .f32 0x7F800000#32
  let main_v4 : FVec F S128x16 .f32 := broadcastInDim S128x16 ![] bcast_S_S128x16 main_cst_0
  let main_v5 : IVec S128x16 1 := cmpf .olt main_v3 main_v4
  (main_v2, main_v5)
-- ==== Pre_finite_ReferenceIdeal.lean ====
abbrev S2048x128 : Shape := ⟨2, ![2048, 128]⟩
abbrev S128x16 : Shape := ⟨2, ![128, 16]⟩
abbrev S2048x1 : Shape := ⟨2, ![2048, 1]⟩
abbrev S16x128x256 : Shape := ⟨3, ![16, 128, 256]⟩
abbrev S128x256 : Shape := ⟨2, ![128, 256]⟩
abbrev S_ : Shape := ⟨0, ![]⟩

class Facts : Prop where
  bcast_S_S2048x128 : S_.BroadcastsInDim S2048x128 (![] : Fin 0 → Fin S2048x128.rank)
  bcast_S_S128x16 : S_.BroadcastsInDim S128x16 (![] : Fin 0 → Fin S128x16.rank)

variable [Facts]

def fn {F : FTy → Type} [FloatOps F] (main_arg0 : FVec F S2048x128 .f32) (main_arg1 : FVec F S128x16 .f32) (main_arg2 : IVec S2048x1 32) (main_arg3 : FVec F S16x128x256 .f32) (main_arg4 : FVec F S128x256 .f32) : IVec S2048x128 1 × IVec S128x16 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_v3 : FVec F S128x16 .f32 := Host.absf main_arg1
  let main_cst_0 : FVec F S_ .f32 := constant S_ .f32 0x7F800000#32
  let main_v4 : FVec F S128x16 .f32 := broadcastInDim S128x16 ![] bcast_S_S128x16 main_cst_0
  let main_v5 : IVec S128x16 1 := cmpf .olt main_v3 main_v4
  (main_v2, main_v5)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S8x2x128x256 : Shape := ⟨4, ![8, 2, 128, 256]⟩
abbrev S7 : Shape := ⟨1, ![7]⟩
abbrev S_ : Shape := ⟨0, ![]⟩
abbrev S256x16 : Shape := ⟨2, ![256, 16]⟩
abbrev S256 : Shape := ⟨1, ![256]⟩
abbrev S1x2x128x256 : Shape := ⟨4, ![1, 2, 128, 256]⟩
abbrev S1x128x256 : Shape := ⟨3, ![1, 128, 256]⟩
abbrev S1 : Shape := ⟨1, ![1]⟩

abbrev nBuf : Space → Nat
  | .hbm => 6
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S256x256, .f32⟩
  | .local _ .vmem, ⟨0, _⟩ => ⟨S256x128, .f32⟩
  | .local _ .vmem, ⟨1, _⟩ => ⟨S128x16, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S256x256, .f32⟩
  | .local _ .vmem, ⟨6, _⟩ => ⟨S8x2x128x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_46 : BitVec 32 := 1#32
  let v72 : BitVec 32 := Scalar.muli v7 c1_i32_46
  let v73 : BitVec 32 := Scalar.addi c0_i32_47 v72
  v73.toNat
def k0_dev4 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_97 : BitVec 32 := 1#32
  let v128 : BitVec 32 := Scalar.muli v7 c1_i32_97
  let v129 : BitVec 32 := Scalar.addi c0_i32_98 v128
  v129.toNat
def k0_dev5 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_147 : BitVec 32 := 1#32
  let v184 : BitVec 32 := Scalar.muli v7 c1_i32_147
  let v185 : BitVec 32 := Scalar.addi c0_i32_148 v184
  v185.toNat
def k0_dev6 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_197 : BitVec 32 := 1#32
  let v240 : BitVec 32 := Scalar.muli v7 c1_i32_197
  let v241 : BitVec 32 := Scalar.addi c0_i32_198 v240
  v241.toNat
def k0_dev7 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_247 : BitVec 32 := 1#32
  let v296 : BitVec 32 := Scalar.muli v7 c1_i32_247
  let v297 : BitVec 32 := Scalar.addi c0_i32_248 v296
  v297.toNat
def k0_dev8 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_297 : BitVec 32 := 1#32
  let v352 : BitVec 32 := Scalar.muli v7 c1_i32_297
  let v353 : BitVec 32 := Scalar.addi c0_i32_298 v352
  v353.toNat
def k0_dev9 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_347 : BitVec 32 := 1#32
  let v408 : BitVec 32 := Scalar.muli v7 c1_i32_347
  let v409 : BitVec 32 := Scalar.addi c0_i32_348 v408
  v409.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x128 : Shape := ⟨2, ![2048, 128]⟩
abbrev S128x16 : Shape := ⟨2, ![128, 16]⟩
abbrev S2048x1 : Shape := ⟨2, ![2048, 1]⟩
abbrev S16x128x256 : Shape := ⟨3, ![16, 128, 256]⟩
abbrev S128x256 : Shape := ⟨2, ![128, 256]⟩
abbrev S2048x16 : Shape := ⟨2, ![2048, 16]⟩
abbrev S_ : Shape := ⟨0, ![]⟩
abbrev S2048 : Shape := ⟨1, ![2048]⟩
abbrev S2048x256 : Shape := ⟨2, ![2048, 256]⟩
abbrev S2048x2 : Shape := ⟨2, ![2048, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S2048x128x256 : Shape := ⟨3, ![2048, 128, 256]⟩

abbrev nBuf : Space → Nat
  | .hbm => 58
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x16, .f32⟩
  | .hbm, ⟨2, _⟩ => ⟨S2048x1, .i32⟩
  | .hbm, ⟨3, _⟩ => ⟨S16x128x256, .f32⟩
  | .hbm, ⟨4, _⟩ => ⟨S128x256, .f32⟩
  | .hbm, ⟨5, _⟩ => ⟨S2048x16, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x16, .f32⟩
  | .hbm, ⟨16, _⟩ => ⟨S2048x16, .f32⟩
  | .hbm, ⟨17, _⟩ => ⟨S2048x256, .f32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x1, .i32⟩
  | .hbm, ⟨22, _⟩ => ⟨S2048x2, .i32⟩
  | .hbm, ⟨23, _⟩ => ⟨S2, .i32⟩
  | .hbm, ⟨24, _⟩ => ⟨S_, .i32⟩
  | .hbm, ⟨25, _⟩ => ⟨S2048x2, .i32⟩
  | .hbm, ⟨26, _⟩ => ⟨S2048x2, .i1⟩
  | .hbm, ⟨27, _⟩ => ⟨S1x2, .i32⟩
  | .hbm, ⟨28, _⟩ => ⟨S2048x2, .i32⟩
  | .hbm, ⟨29, _⟩ => ⟨S2048x2, .i1⟩
  | .hbm, ⟨30, _⟩ => ⟨S2048x2, .i1⟩
  | .hbm, ⟨31, _⟩ => ⟨S_, .i1⟩
  | .hbm, ⟨32, _⟩ => ⟨S2048, .i1⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .i32⟩
  | .hbm, ⟨38, _⟩ => ⟨S1, .i32⟩
  | .hbm, ⟨39, _⟩ => ⟨S_, .i32⟩
  | .hbm, ⟨40, _⟩ => ⟨S2048x1, .i32⟩
  | .hbm, ⟨41, _⟩ => ⟨S2048x1, .i1⟩
  | .hbm, ⟨42, _⟩ => ⟨S1x1, .i32⟩
  | .hbm, ⟨43, _⟩ => ⟨S2048x1, .i32⟩
  | .hbm, ⟨44, _⟩ => ⟨S2048x1, .i1⟩
  | .hbm, ⟨45, _⟩ => ⟨S2048x1, .i1⟩
  | .hbm, ⟨46, _⟩ => ⟨S_, .i1⟩
  | .hbm, ⟨47, _⟩ => ⟨S2048, .i1⟩
  | .hbm, ⟨48, _⟩ => ⟨S2048x128x256, .f32⟩
  | .hbm, ⟨49, _⟩ => ⟨S2048x128x256, .i1⟩
  | .hbm, ⟨50, _⟩ => ⟨S_, .f32⟩
  | .hbm, ⟨51, _⟩ => ⟨S2048x128x256, .f32⟩
  | .hbm, ⟨52, _⟩ => ⟨S2048x128x256, .f32⟩
  | .hbm, ⟨53, _⟩ => ⟨S2048x256, .f32⟩
  | .hbm, ⟨54, _⟩ => ⟨S2048x1, .f32⟩
  | .hbm, ⟨55, _⟩ => ⟨S2048x256, .f32⟩
  | .hbm, ⟨56, _⟩ => ⟨S2048x256, .f32⟩
  | .hbm, ⟨57, _⟩ => ⟨S2048x256, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Slots.lean ====
/-
# 01_k — the ring of devices and the eight slots of the exchange buffer

The kernel runs on eight devices in a ring. Every device has an exchange buffer of eight slots, each as large as one
device's share of the experts (two matrices of 128 × 256). Slot 0 holds the device's own share; hop `h` (`h < 7`)
copies slot `h` of a device into slot `h + 1` of the device after it. This module names the neighbours and the slots,
cuts the buffer into its slots and puts it together again, and reads and writes one slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device `k` places after `c` on the ring of eight. -/
def ahead (k : ℕ) (c : Dev nD) : Dev nD := ⟨(c.val + k) % 8, Nat.mod_lt _ (by decide)⟩

/-- The device after `c`, to which `c` sends. -/
abbrev nxt (c : Dev nD) : Dev nD := ahead 1 c
/-- The device before `c`, from which `c` receives. -/
abbrev prv (c : Dev nD) : Dev nD := ahead 7 c
/-- The device whose share sits in slot `k` of `c` when all is done: `k` places before `c`. -/
abbrev origin (k : Fin 8) (c : Dev nD) : Dev nD := ahead (8 - k.val) c

theorem prv_nxt (c : Dev nD) : prv (nxt c) = c := by revert c; decide
theorem nxt_prv (c : Dev nD) : nxt (prv c) = c := by revert c; decide
theorem nxt_ne_prv (c : Dev nD) : nxt c ≠ prv c := by revert c; decide
theorem origin_zero (c : Dev nD) : origin 0 c = c := by revert c; decide
/-- What slot `h + 1` of the next device is to hold is what slot `h` of this one holds. -/
theorem origin_succ_nxt (h : Fin 7) (c : Dev nD) : origin h.succ (nxt c) = origin h.castSucc c := by revert h c; decide

/-- The ring as a permutation: one step ahead. -/
def ring : Dev nD ≃ Dev nD := ⟨nxt, prv, prv_nxt, nxt_prv⟩

/-- The first signal names the device before. -/
theorem dev1_eq (c : Dev nD) : (⟨k0_dev1 c, k0_dev1_lt c⟩ : Dev nD) = prv c := Fin.ext (k0_dev1_eq c)
/-- The second signal names the device after. -/
theorem dev2_eq (c : Dev nD) : (⟨k0_dev2 c, k0_dev2_lt c⟩ : Dev nD) = nxt c := Fin.ext (k0_dev2_eq c)

/-! ## The slots -/

theorem inb_slot (k : Fin 8) : ∀ a, (![k.val, 0, 0, 0] : Fin 4 → Nat) a + S1x2x128x256.size a ≤ S8x2x128x256.size a := by
  revert k; decide

/-- The exchange buffer. -/
abbrev bufM : Memref sig .tc .vmem S8x2x128x256 .f32 := Memref.whole cc0_scratch0
/-- The coordinates of slot `k` in the buffer. -/
abbrev slotR (k : Fin 8) : Rect S8x2x128x256 := Rect.unit (s := S8x2x128x256) ![k.val, 0, 0, 0] S1x2x128x256.size (inb_slot k)
/-- Slot `k` as the copies see it: two matrices. -/
abbrev slotM (k : Fin 8) : Memref sig .tc .vmem S2x128x256 .f32 :=
  (bufM.slice (slotR k) (fun _ => rfl)).squeeze S2x128x256 squeezes_S1x2x128x256_S2x128x256

theorem slot_set (k : Fin 8) : (slotM k).view.set = (slotR k).set := by
  exact (View.set_reshape _ _).trans (View.set_slice_whole _ _)

/-- An element lies in slot `k` exactly when its first coordinate is `k`. -/
theorem mem_slot (k : Fin 8) (i : S8x2x128x256.Idx) : i ∈ (slotR k).set ↔ (i 0).val = k.val := by
  rw [Rect.mem_set_unit]
  constructor
  · intro h
    have h0 := h 0
    have e1 : (![k.val, 0, 0, 0] : Fin 4 → Nat) 0 = k.val := rfl
    have e2 : S1x2x128x256.size 0 = 1 := rfl
    rw [e1, e2] at h0; omega
  · intro h a
    have hi := (i a).isLt
    fin_cases a
    · have e1 : (![k.val, 0, 0, 0] : Fin 4 → Nat) 0 = k.val := rfl
      have e2 : S1x2x128x256.size 0 = 1 := rfl
      show (![k.val, 0, 0, 0] : Fin 4 → Nat) 0 ≤ (i 0).val ∧ (i 0).val < (![k.val, 0, 0, 0] : Fin 4 → Nat) 0 + S1x2x128x256.size 0
      rw [e1, e2]; omega
    all_goals exact ⟨Nat.zero_le _, by simpa using hi⟩

theorem slot_disjoint {k k' : Fin 8} (h : k ≠ k') : Disjoint (slotR k).set (slotR k').set :=
  Finset.disjoint_left.mpr fun i hi hi' => h (Fin.ext (((mem_slot k i).mp hi).symm.trans ((mem_slot k' i).mp hi')))

/-- The eight slots are the whole buffer. -/
theorem slot_cover : (Finset.univ : Finset (Fin 8)).biUnion (fun k => (slotR k).set) = Finset.univ := by
  refine Finset.eq_univ_iff_forall.mpr fun i => ?_
  have hi : (i 0).val < 8 := (i 0).isLt
  exact Finset.mem_biUnion.mpr ⟨⟨(i 0).val, hi⟩, Finset.mem_univ _, (mem_slot _ i).mpr rfl⟩

/-! ## The resources -/

/-- The rounds library's algebra over this proof's cells, duties named by a truth value. -/
abbrev UB : Type := URounds (GSem nD τ sig) Bool
/-- The pipeline's own algebra beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Slot `k` of device `c` in hand, its share of the experts being `X`. -/
def slotHas (c : Dev nD) (k : Fin 8) (X : FVec F S2x128x256 .f32) : sProp 𝕄 := owns (c : Thread nD τ) (slotM k) fullShare X
/-- Slot `k` of device `c` in hand, holding anything. -/
def slotAny (c : Dev nD) (k : Fin 8) : sProp 𝕄 := iprop(∃ X, slotHas (F := F) c k X)

omit [FloatOps F] in
instance slotHas_storable (c : Dev nD) (k : Fin 8) (X : FVec F S2x128x256 .f32) :
    BI.Storable (upEmb : UEmb _ 𝕄) (slotHas c k X) := by unfold slotHas; infer_instance
omit [FloatOps F] in
instance slotAny_storable (c : Dev nD) (k : Fin 8) : BI.Storable (upEmb : UEmb _ 𝕄) (slotAny (F := F) c k) := by
  unfold slotAny; infer_instance

omit [FloatOps F] in
/-- A slot's elements at any contents of the buffer: the slot in hand. -/
theorem slotAny_of (c : Dev nD) (k : Fin 8) (f : Buf (Elt F) ((c : Thread nD τ).loc cc0_scratch0)) :
    (((c : Thread nD τ).loc cc0_scratch0 ↦[(slotR k).set]{fullShare} f) : sProp 𝕄) ⊢ slotAny c k := by
  unfold slotAny slotHas owns
  iintro H
  iexists (slotM k).view.read (Elt F) f
  iexists f
  isplitr; · (ipureintro; rfl)
  iapply (Entails.of_eq (congrArg (fun S => ((c : Thread nD τ).loc cc0_scratch0 ↦[S]{fullShare} f : sProp 𝕄)) (slot_set k).symm))
  iexact H

omit [FloatOps F] in
/-- The slot in hand is its elements at some contents of the buffer. -/
theorem slotHas_some (c : Dev nD) (k : Fin 8) (X : FVec F S2x128x256 .f32) :
    (slotHas c k X : sProp 𝕄) ⊢ iprop(∃ f : Buf (Elt F) ((c : Thread nD τ).loc cc0_scratch0), (c : Thread nD τ).loc cc0_scratch0 ↦[(slotR k).set]{fullShare} f) := by
  unfold slotHas owns
  iintro ⟨%f, -, H⟩
  iexists f
  iapply (Entails.of_eq (congrArg (fun S => ((c : Thread nD τ).loc cc0_scratch0 ↦[S]{fullShare} f : sProp 𝕄)) (slot_set k)))
  iexact H

/-- Slot `k`'s elements among device `c`'s buffer's. -/
def slotSet (c : Dev nD) (k : Fin 8) : Finset (Idx ((c : Thread nD τ).loc cc0_scratch0)) := (slotR k).set

theorem slotSet_disjoint (c : Dev nD) : ∀ k ∈ (Finset.univ : Finset (Fin 8)), ∀ k' ∈ (Finset.univ : Finset (Fin 8)), k ≠ k' →
    Disjoint (slotSet c k) (slotSet c k') := fun _ _ _ _ h => slot_disjoint h
theorem slotSet_cover (c : Dev nD) : (Finset.univ : Finset (Fin 8)).biUnion (slotSet c) = Finset.univ := slot_cover

omit [FloatOps F] in
/-- The buffer held whole is its eight slots in hand. -/
theorem slots_of_whole (c : Dev nD) (f : Buf (Elt F) ((c : Thread nD τ).loc cc0_scratch0)) :
    (((c : Thread nD τ).loc cc0_scratch0 ↦{fullShare} f) : sProp 𝕄) ⊢ bigSep Finset.univ fun k : Fin 8 => slotAny c k := by
  have h := pointsTo_biUnion (Ix := Unit) (Name := ℕ) (U := UU) (Lvl := ℕ) (q := fullShare) (f := f) Finset.univ (slotSet c) (slotSet_disjoint c)
  rw [slotSet_cover] at h
  exact (Entails.of_eq h).trans (bigSep_mono fun k _ => slotAny_of c k f)

/-- The elements of the eight slots, each set at some contents, are the whole buffer at some contents. -/
theorem whole_of_sets (c : Dev nD) :
    (bigSep Finset.univ fun k : Fin 8 => iprop(∃ f : Buf (Elt F) ((c : Thread nD τ).loc cc0_scratch0),
        (c : Thread nD τ).loc cc0_scratch0 ↦[slotSet c k]{fullShare} f) : sProp 𝕄)
      ⊢ iprop(∃ f : Buf (Elt F) ((c : Thread nD τ).loc cc0_scratch0), (c : Thread nD τ).loc cc0_scratch0 ↦{fullShare} f) := by
  iintro H
  ihave HK := (BI.bigSep_exists_pi Finset.univ (fun (k : Fin 8) (f : Buf (Elt F) ((c : Thread nD τ).loc cc0_scratch0)) =>
    ((c : Thread nD τ).loc cc0_scratch0 ↦[slotSet c k]{fullShare} f : sProp 𝕄))) $$ H
  icases HK with ⟨%fs, H⟩
  ihave HJ := (pointsTo_biUnion_join Finset.univ (slotSet c) fs (fs 0) (slotSet_disjoint c)) $$ H
  icases HJ with ⟨%g, -, H⟩
  iexists g
  rw [slotSet_cover]
  iexact H

/-- The eight slots in hand, whatever they hold, are the buffer held whole at some contents. -/
theorem whole_of_slots (c : Dev nD) (X : Fin 8 → FVec F S2x128x256 .f32) :
    (bigSep Finset.univ fun k : Fin 8 => (slotHas c k (X k) : sProp 𝕄))
      ⊢ iprop(∃ f : Buf (Elt F) ((c : Thread nD τ).loc cc0_scratch0), (c : Thread nD τ).loc cc0_scratch0 ↦{fullShare} f) :=
  (bigSep_mono fun k _ => slotHas_some c k (X k)).trans (whole_of_sets c)

/-! ## Reading and writing a slot through the whole buffer -/

/-- The two matrices under a unit axis: the stored form is one change of shape. -/
theorem pay8_eq (X : FVec F S2x128x256 .f32) : k0_pay8 X = shapeCast S1x2x128x256 X shapeCasts_S2x128x256_S1x2x128x256 := by
  unfold k0_pay8
  show shapeCast S1x2x128x256 (shapeCast S2x128x256 X shapeCasts_S2x128x256_S2x128x256) shapeCasts_S2x128x256_S1x2x128x256 = _
  rw [shapeCast_self]

omit [FloatOps F] in
/-- What the copies read of slot `k` is what a load of it reads, the unit axis dropped. -/
theorem slot_read_eq (k : Fin 8) (f : (cc0_scratch0 : Ref sig .tc).ty.Contents (Elt F)) :
    (slotM k).view.read (Elt F) f
      = shapeCast S2x128x256 (bufM.view.readAt (Elt F) (slotR k).toLoadRect f) shapeCasts_S1x2x128x256_S2x128x256 := rfl

/-- What a load of slot `k` reads is the slot's two matrices under a unit axis. -/
theorem read_slot (k : Fin 8) (f : (cc0_scratch0 : Ref sig .tc).ty.Contents (Elt F)) (X : FVec F S2x128x256 .f32)
    (h : (slotM k).view.read (Elt F) f = X) : bufM.view.readAt (Elt F) (slotR k).toLoadRect f = k0_pay8 X := by
  rw [pay8_eq, ← h, slot_read_eq]
  exact (shapeCast_shapeCast (t := S2x128x256) (s := S1x2x128x256) (bufM.view.readAt (Elt F) (slotR k).toLoadRect f) _ _).symm

/-- After a store of two matrices under a unit axis, the slot holds the two matrices. -/
theorem write_slot (k : Fin 8) (f : (cc0_scratch0 : Ref sig .tc).ty.Contents (Elt F)) (X : FVec F S2x128x256 .f32) :
    (slotM k).view.read (Elt F) ((bufM.access (slotR k)).write (Elt F) f (k0_pay8 X) Finset.univ) = X := by
  have h : bufM.view.readAt (Elt F) (slotR k).toLoadRect ((bufM.access (slotR k)).write (Elt F) f (k0_pay8 X) Finset.univ) = k0_pay8 X :=
    View.read_write_univ (v := bufM.access (slotR k)) f (k0_pay8 X)
  rw [slot_read_eq, h, pay8_eq]
  exact shapeCast_shapeCast (s := S2x128x256) (t := S1x2x128x256) X _ _

end Cert.Moe

end
-- ==== Proof.Protocol.lean ====
/-
# 01_k — the protocol of the exchange

Every device has fifteen semaphore cells of its own: the barrier cell, and for each of the seven hops a cell counting
what it has sent and one counting what it has received. All are used for one round.

* The barrier cell of `c` takes one unit from either neighbour. With the unit of the device after it, `c` is handed that
  device's slots 1 to 7, into which alone it writes.
* The send cell of hop `h` gives `c` back its slot `h` once the copy has left.
* The receive cell of hop `h` gives `c` its slot `h + 1`, filled with the share of the device `h + 1` places before it.

A wait can only be for a cell of a lower level than all cells the waiting device still owes: the barrier is at level 1,
hop `h`'s receive cell at level `2 + h`, everything else at level 0.
-/
module

public import proofs.«01_k».proof.Proof.Slots

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- Which of a device's cells: the barrier, hop `h`'s send cell (left) or hop `h`'s receive cell (right). -/
abbrev Site : Type := Unit ⊕ (Fin 7 ⊕ Fin 7)
abbrev Site.bar : Site := Sum.inl ()
abbrev Site.send (h : Fin 7) : Site := Sum.inr (Sum.inl h)
abbrev Site.recv (h : Fin 7) : Site := Sum.inr (Sum.inr h)

/-- The barrier semaphore of the runtime. -/
abbrev barS : Sem sig := (SemArray.scalar (sig.barrier 0 rfl) : Sems sig S_).sem

theorem sendQ_lt (h : Fin 7) : 6 + h.val < sig.nDmaSem := by revert h; decide
theorem recvQ_lt (h : Fin 7) : 13 + h.val < sig.nDmaSem := by revert h; decide

/-- Hop `h`'s send semaphore. -/
def sendQ (h : Fin 7) : DmaSem sig := ⟨6 + h.val, sendQ_lt h⟩
/-- Hop `h`'s receive semaphore. -/
def recvQ (h : Fin 7) : DmaSem sig := ⟨13 + h.val, recvQ_lt h⟩

/-- The semaphore at a site. -/
def semAt : Site → SemLoc sig
  | .inl _ => .reg barS
  | .inr (.inl h) => .dma (sendQ h)
  | .inr (.inr h) => .dma (recvQ h)

set_option backward.proofsInPublic true in
/-- The site of a semaphore, if the protocol uses it. -/
def siteOf : SemLoc sig → Option Site
  | .reg s => if s = barS then some .bar else none
  | .dma q =>
    if h : 6 ≤ q.val ∧ q.val < 13 then some (.send ⟨q.val - 6, by omega⟩)
    else if h : 13 ≤ q.val ∧ q.val < 20 then some (.recv ⟨q.val - 13, by omega⟩)
    else none

theorem siteOf_semAt (s : Site) : siteOf (semAt s) = some s := by revert s; decide
theorem semAt_injective : Function.Injective semAt := fun s s' h =>
  Option.some.inj ((siteOf_semAt s).symm.trans ((congrArg siteOf h).trans (siteOf_semAt s')))

/-- Device `c`'s cell at a site. -/
abbrev cell (c : Dev nD) (s : Site) : GSem nD τ sig := ((c : Thread nD τ), semAt s)

theorem cell_injective : Function.Injective (fun cs : Dev nD × Site => cell cs.1 cs.2) := by
  rintro ⟨c, s⟩ ⟨c', s'⟩ h
  have h1 : c = c' := congrArg (fun g : GSem nD τ sig => g.1.1) h
  have h2 : s = s' := semAt_injective (congrArg Prod.snd h)
  rw [h1, h2]

/-- Two cells are the same exactly when device and site are. -/
theorem cell_eq {c c' : Dev nD} {s s' : Site} : cell c s = cell c' s' ↔ c = c' ∧ s = s' :=
  ⟨fun h => Prod.mk.inj (cell_injective (a₁ := (c, s)) (a₂ := (c', s')) h), fun ⟨h1, h2⟩ => by rw [h1, h2]⟩

/-- The site of a cell of the machine, if the protocol uses it. -/
def gsite (g : GSem nD τ sig) : Option Site := if g.1.2 = .tc then siteOf g.2 else none
theorem gsite_cell (c : Dev nD) (s : Site) : gsite (cell c s) = some s := (if_pos rfl).trans (siteOf_semAt s)

/-- What one copy of a slot counts. -/
abbrev N : ℕ := (slotM 0).view.dmaCredit
theorem N_pos : 0 < N := View.dmaCredit_pos _ (by decide)

/-! ## The contents -/

variable (m : (ℓ : Loc nD τ sig) → Buf (Elt F) ℓ)

/-- Device `c`'s block of the array of window `w` as the pipeline stages it: the tokens, -/
def inX (c : Dev nD) : (cc0_stg0_0 : Ref sig .tc).ty.Contents (Elt F) := (win0_0.blk (0 : Fin 1)).view.read (Elt F) (m ((c : Thread nD τ).loc main_arg0))
/-- the router's weights, -/
def inR (c : Dev nD) : (cc0_stg1_0 : Ref sig .tc).ty.Contents (Elt F) := (win0_1.blk (0 : Fin 1)).view.read (Elt F) (m ((c : Thread nD τ).loc main_arg1))
/-- the experts the tokens go to, -/
def inI (c : Dev nD) : (cc0_stg2_0 : Ref sig .tc).ty.Contents (Elt F) := (win0_2.blk (0 : Fin 1)).view.read (Elt F) (m ((c : Thread nD τ).loc main_arg2))
/-- the device's share of the experts, -/
def inW (c : Dev nD) : (cc0_stg3_0 : Ref sig .tc).ty.Contents (Elt F) := (win0_3.blk (0 : Fin 1)).view.read (Elt F) (m ((c : Thread nD τ).loc main_arg3))
/-- the shared weights. -/
def inS (c : Dev nD) : (cc0_stg4_0 : Ref sig .tc).ty.Contents (Elt F) := (win0_4.blk (0 : Fin 1)).view.read (Elt F) (m ((c : Thread nD τ).loc main_arg4))

/-- The share that slot `k` of device `c` comes to hold. -/
abbrev share (k : Fin 8) (c : Dev nD) : FVec F S2x128x256 .f32 := inW m (origin k c)

/-! ## The schedule -/

/-- What device `d` hands over at the barrier: its slots 1 to 7. -/
def opened (d : Dev nD) : sProp 𝕄 := bigSep Finset.univ fun h : Fin 7 => slotAny (F := F) d h.succ

/-- What the duty `d` of device `c`'s cell at a site hands to `c`. -/
def pay (c : Dev nD) : Site → Bool → sProp 𝕄
  | .inl _, true => opened (nxt c)
  | .inl _, false => iprop(emp)
  | .inr (.inl h), _ => slotHas c h.castSucc (share m h.castSucc c)
  | .inr (.inr h), _ => slotHas c h.succ (share m h.succ c)

omit [FloatOps F] in
instance pay_storable (c : Dev nD) (s : Site) (d : Bool) : BI.Storable (upEmb : UEmb _ 𝕄) (pay m c s d) := by
  rcases s with _ | _ | _ <;> cases d <;> (unfold pay; try unfold opened) <;> infer_instance

/-- One round. A barrier cell has two duties of one unit; a send or receive cell one duty of a slot's credit. -/
def sched : Rounds.Schedule (GSem nD τ sig) Bool 𝕄 where
  duties g r := if r = 0 then (match gsite g with | some (.inl _) => Finset.univ | some (.inr _) => {false} | none => ∅) else ∅
  unitless _ := False
  amount g _ _ := match gsite g with | some (.inr _) => N | _ => 1
  payload g _ d := match gsite g with | some s => pay m g.1.1 s d | none => iprop(emp)
  amount_pos g _ _ _ := by
    rcases gsite g with _ | _ | _
    · exact Nat.one_pos
    · exact Nat.one_pos
    · exact N_pos

omit [FloatOps F] in
instance sched_storable (g : GSem nD τ sig) (r : ℕ) (d : Bool) : BI.Storable (upEmb : UEmb _ 𝕄) ((sched (F := F) m).payload g r d) := by
  show BI.Storable upEmb (match gsite g with | some s => pay m g.1.1 s d | none => iprop(emp))
  split <;> infer_instance

section Sched
variable (c : Dev nD)

omit [FloatOps F] in
theorem duties_bar : (sched (F := F) m).duties (cell c .bar) 0 = Finset.univ := by dsimp only [sched]; rw [if_pos rfl, gsite_cell]
omit [FloatOps F] in
theorem duties_hop (x : Fin 7 ⊕ Fin 7) : (sched (F := F) m).duties (cell c (.inr x)) 0 = {false} := by dsimp only [sched]; rw [if_pos rfl, gsite_cell]
omit [FloatOps F] in
theorem duties_later (g : GSem nD τ sig) : ∀ r, 1 ≤ r → (sched (F := F) m).duties g r = ∅ := fun r hr => if_neg (by omega)

omit [FloatOps F] in
theorem amount_bar (d : Bool) : (sched (F := F) m).amount (cell c .bar) 0 d = 1 := by dsimp only [sched]; rw [gsite_cell]
omit [FloatOps F] in
theorem amount_hop (x : Fin 7 ⊕ Fin 7) (d : Bool) : (sched (F := F) m).amount (cell c (.inr x)) 0 d = N := by dsimp only [sched]; rw [gsite_cell]

omit [FloatOps F] in
theorem expect_bar : (sched (F := F) m).expect (cell c .bar) 0 = 2 := by
  unfold Schedule.expect Schedule.amountOf
  rw [duties_bar, Finset.sum_congr rfl fun d _ => amount_bar m c d]; rfl
omit [FloatOps F] in
theorem expect_hop (x : Fin 7 ⊕ Fin 7) : (sched (F := F) m).expect (cell c (.inr x)) 0 = N := by
  unfold Schedule.expect Schedule.amountOf; rw [duties_hop, Finset.sum_singleton, amount_hop]

omit [FloatOps F] in
theorem payload_cell (s : Site) (d : Bool) : (sched (F := F) m).payload (cell c s) 0 d = pay m c s d := by dsimp only [sched]; rw [gsite_cell]

omit [FloatOps F] in
/-- All of the barrier's round: the slots of the device after. -/
theorem rest_bar : bigSep ((sched (F := F) m).duties (cell c .bar) 0 \ ∅) (fun d => (sched (F := F) m).payload (cell c .bar) 0 d)
    = iprop(emp ∗ opened (nxt c)) := by
  rw [Finset.sdiff_empty, duties_bar, bigSep_univ_eq_bigSepL [false, true] (by decide) (by decide), bigSepL_cons_cons, bigSepL_singleton,
    payload_cell, payload_cell]
  rfl
omit [FloatOps F] in
/-- All of a send or receive cell's round: its one payload. -/
theorem rest_hop (x : Fin 7 ⊕ Fin 7) :
    bigSep ((sched (F := F) m).duties (cell c (.inr x)) 0 \ ∅) (fun d => (sched (F := F) m).payload (cell c (.inr x)) 0 d) = pay m c (.inr x) false := by
  rw [Finset.sdiff_empty, duties_hop, bigSep_singleton, payload_cell]

end Sched

/-! ## What a device owes, and the levels -/

/-- What `c` still owes the receive cells of the device after it before hop `k`. -/
def owedFrom (c : Dev nD) (k : ℕ) : CellTallies nD τ sig Unit :=
  ∑ h ∈ Finset.univ.filter (fun h : Fin 7 => k ≤ h.val), tallyAt (cell (nxt c) (.recv h)) () N
/-- After its first signal `c` owes the hops and a unit to the barrier of the device after it. -/
def owed₁ (c : Dev nD) : CellTallies nD τ sig Unit := owedFrom c 0 + tallyAt (cell (nxt c) .bar) () 1
/-- At launch `c` owes besides a unit to the barrier of the device before it. -/
def owed₀ (c : Dev nD) : CellTallies nD τ sig Unit := owed₁ c + tallyAt (cell (prv c) .bar) () 1

theorem owedFrom_step (c : Dev nD) (h : Fin 7) : owedFrom c h.val = owedFrom c (h.val + 1) + tallyAt (cell (nxt c) (.recv h)) () N := by
  have e : Finset.univ.filter (fun h' : Fin 7 => h.val ≤ h'.val) = insert h (Finset.univ.filter fun h' : Fin 7 => h.val + 1 ≤ h'.val) := by
    revert h; decide
  unfold owedFrom
  rw [e, Finset.sum_insert (by simp), add_comm]
theorem owedFrom_end (c : Dev nD) : owedFrom c 7 = 0 := by
  unfold owedFrom
  rw [show (Finset.univ.filter fun h : Fin 7 => 7 ≤ h.val) = ∅ by decide, Finset.sum_empty]

theorem owedFrom_pos {c : Dev nD} {k : ℕ} {g : GSem nD τ sig} {u : Unit} (h : 0 < owedFrom c k g u) :
    ∃ i : Fin 7, k ≤ i.val ∧ g = cell (nxt c) (.recv i) := by
  unfold owedFrom at h
  rw [Finset.sum_apply, Finsupp.finset_sum_apply] at h
  obtain ⟨i, hi, hp⟩ := Finset.exists_ne_zero_of_sum_ne_zero h.ne'
  refine ⟨i, (Finset.mem_filter.mp hi).2, ?_⟩
  rw [tallyAt_apply] at hp
  by_contra hn
  exact hp (if_neg fun h' => hn h'.1)

theorem owed₀_pos {c : Dev nD} {g : GSem nD τ sig} {u : Unit} (h : 0 < owed₀ c g u) :
    (∃ d, g = cell d .bar) ∨ ∃ d i, g = cell d (.recv i) := by
  unfold owed₀ owed₁ at h
  rw [Pi.add_apply, Finsupp.add_apply, Pi.add_apply, Finsupp.add_apply, tallyAt_apply, tallyAt_apply] at h
  by_cases h1 : g = cell (prv c) .bar
  · exact .inl ⟨_, h1⟩
  by_cases h2 : g = cell (nxt c) .bar
  · exact .inl ⟨_, h2⟩
  rw [if_neg (fun h' => h2 h'.1), if_neg (fun h' => h1 h'.1)] at h
  obtain ⟨i, -, hg⟩ := owedFrom_pos (u := u) (by simpa using h)
  exact .inr ⟨_, i, hg⟩

/-- The cells with a level. -/
def L (g : GSem nD τ sig) : Finset Unit := if g.1.2 = .tc then {()} else ∅
/-- The level of a cell. -/
def lv (g : GSem nD τ sig) (_ : Unit) : ℕ := match gsite g with | some (.inl _) => 1 | some (.inr (.inr h)) => 2 + h.val | _ => 0

theorem L_of_ne (g : GSem nD τ sig) (h : g.1.2 ≠ .tc) : L g = ∅ := if_neg h
theorem L_tc (c : Dev nD) (sm : SemLoc sig) : () ∈ L ((c : Thread nD τ), sm) := by
  rw [show L ((c : Thread nD τ), sm) = {()} from if_pos rfl]; exact Finset.mem_singleton_self _
theorem lv_bar (c : Dev nD) : lv (cell c .bar) () = 1 := by dsimp only [lv]; rw [gsite_cell]
theorem lv_send (c : Dev nD) (h : Fin 7) : lv (cell c (.send h)) () = 0 := by dsimp only [lv]; rw [gsite_cell]
theorem lv_recv (c : Dev nD) (h : Fin 7) : lv (cell c (.recv h)) () = 2 + h.val := by dsimp only [lv]; rw [gsite_cell]

omit [FloatOps F] in
/-- A wait may stand when everything owed lies on a device's cells above the level waited at. -/
theorem mayWait_of (c : Dev nD) (sm : SemLoc sig) (O : CellTallies nD τ sig Unit) (b : ℕ) (hb : lv ((c : Thread nD τ), sm) () ≤ b)
    (hO : ∀ g u, 0 < O g u → ∃ d s, g = cell d s ∧ b < lv g ()) : (levAts L lv : sProp 𝕄) ⊢ MayWait (c : Thread nD τ) sm () O :=
  MayOwe.of_cut (L := L) (lev := lv) b (fun p hp => by rw [Finset.mem_singleton.mp hp]; exact L_tc c sm)
    (fun g u hg => by obtain ⟨d, s, rfl, -⟩ := hO g u hg; exact L_tc d _)
    (fun p hp => by rw [Finset.mem_singleton.mp hp]; exact hb)
    (fun g u hg => by obtain ⟨d, s, -, h⟩ := hO g u hg; exact h)

omit [FloatOps F] in
/-- The barrier's wait stands below all hops. -/
theorem mayWait_bar (c : Dev nD) : (levAts L lv : sProp 𝕄) ⊢ MayWait (c : Thread nD τ) (semAt .bar) () (owedFrom c 0) :=
  mayWait_of c _ _ 1 (lv_bar c).le fun g u hg => by
    obtain ⟨i, -, rfl⟩ := owedFrom_pos hg
    exact ⟨_, _, rfl, by rw [lv_recv]; omega⟩
omit [FloatOps F] in
/-- Hop `h`'s waits stand below the hops after it. -/
theorem mayWait_hop (c : Dev nD) (h : Fin 7) (s : Site) (hs : s = .send h ∨ s = .recv h) :
    (levAts L lv : sProp 𝕄) ⊢ MayWait (c : Thread nD τ) (semAt s) () (owedFrom c (h.val + 1)) :=
  mayWait_of c _ _ (2 + h.val)
    (by rcases hs with rfl | rfl
        · exact (lv_send c h).le.trans (Nat.zero_le _)
        · exact (lv_recv c h).le)
    fun g u hg => by
      obtain ⟨i, hi, rfl⟩ := owedFrom_pos hg
      exact ⟨_, _, rfl, by rw [lv_recv]; omega⟩
omit [FloatOps F] in
/-- The pipeline's own waits stand below everything. -/
theorem mayWait_stage (c : Dev nD) (q : DmaSem sig) (hq : siteOf (.dma q) = none) (O : CellTallies nD τ sig Unit) (hO : O = owed₀ c ∨ O = 0) :
    (levAts L lv : sProp 𝕄) ⊢ MayWait (c : Thread nD τ) (.dma q) () O := by
  have hq0 : lv ((c : Thread nD τ), .dma q) () ≤ 0 := by
    dsimp only [lv]; rw [show gsite ((c : Thread nD τ), .dma q) = none from (if_pos rfl).trans hq]
  refine mayWait_of c _ _ 0 hq0 fun g u hg => ?_
  rcases hO with rfl | rfl
  · rcases owed₀_pos hg with ⟨d, rfl⟩ | ⟨d, i, rfl⟩
    · exact ⟨_, _, rfl, by rw [lv_bar]; decide⟩
    · exact ⟨_, _, rfl, by rw [lv_recv]; omega⟩
  · exact absurd hg (Nat.lt_irrefl 0)

/-! ## What a device starts from -/

/-- The invariants of all cells under the names `K`, and that all cells have reached round 0. -/
def records (K : Dev nD × Site → ℕ) : sProp 𝕄 :=
  iprop((bigSep Finset.univ fun cs : Dev nD × Site => cellInv ER (sched m) (K cs) (cell cs.1 cs.2))
    ∗ bigSep Finset.univ fun cs : Dev nD × Site => reached ER (cell cs.1 cs.2) 0)

omit [FloatOps F] in
instance records_persistent (K : Dev nD × Site → ℕ) : BI.Persistent (records m K) := by unfold records; infer_instance

omit [FloatOps F] in
theorem records_inv (K : Dev nD × Site → ℕ) (c : Dev nD) (s : Site) : records m K ⊢ cellInv ER (sched m) (K (c, s)) (cell c s) := by
  have h : (bigSep Finset.univ fun cs : Dev nD × Site => (cellInv ER (sched m) (K cs) (cell cs.1 cs.2) : sProp 𝕄))
      ⊢ cellInv ER (sched m) (K (c, s)) (cell c s) := bigSep_elim (Finset.mem_univ (c, s))
  unfold records
  iintro ⟨H, -⟩
  iapply h
  iexact H
omit [FloatOps F] in
theorem records_reached (K : Dev nD × Site → ℕ) (c : Dev nD) (s : Site) : records m K ⊢ reached ER (cell c s) 0 := by
  have h : (bigSep Finset.univ fun cs : Dev nD × Site => (reached ER (cell cs.1 cs.2) 0 : sProp 𝕄)) ⊢ reached ER (cell c s) 0 :=
    bigSep_elim (Finset.mem_univ (c, s))
  unfold records
  iintro ⟨-, H⟩
  iapply h
  iexact H

/-- What `c` needs for hop `h` beyond the slots: its places at the two cells, the two tokens it pays with and the credit
    of what it is to receive. -/
def hopKit (c : Dev nD) (h : Fin 7) : sProp 𝕄 :=
  iprop(atPos ER (cell c (.send h)) 0 ∅ 0 ∗ atPos ER (cell c (.recv h)) 0 ∅ 0
    ∗ dutyTok ER (cell c (.send h)) 0 false ∗ dutyTok ER (cell (nxt c) (.recv h)) 0 false
    ∗ cred (tallyAt (cell c (.recv h)) () N))

/-- What `c` needs for the barrier. -/
def barKit (c : Dev nD) : sProp 𝕄 :=
  iprop(atPos ER (cell c .bar) 0 ∅ 0 ∗ dutyTok ER (cell (prv c) .bar) 0 true ∗ dutyTok ER (cell (nxt c) .bar) 0 false
    ∗ cred (tallyAt (cell c .bar) () 2))

/-- What `c`'s body starts from, the buffer apart. -/
def start (c : Dev nD) : sProp 𝕄 :=
  iprop((∃ K, records m K) ∗ levAts L lv ∗ barKit (F := F) c ∗ bigSep Finset.univ fun h : Fin 7 => hopKit (F := F) c h)

/-- Before the point: that and the buffer at any contents. -/
def Φ₀ (c : Dev nD) : sProp 𝕄 := iprop(start m c ∗ ∃ f : Buf (Elt F) ((c : Thread nD τ).loc cc0_scratch0), (c : Thread nD τ).loc cc0_scratch0 ↦{fullShare} f)
/-- After the point: the buffer at any contents and all fifteen counters at zero. -/
def Φ₁ (c : Dev nD) : sProp 𝕄 :=
  iprop((∃ f : Buf (Elt F) ((c : Thread nD τ).loc cc0_scratch0), (c : Thread nD τ).loc cc0_scratch0 ↦{fullShare} f)
    ∗ semVal (cell c .bar) 0 ∗ bigSep Finset.univ fun h : Fin 7 => iprop(semVal (cell c (.send h)) 0 ∗ semVal (cell c (.recv h)) 0))

end Cert.Moe

end
-- ==== Proof.Hop.lean ====
/-
# 01_k — one hop of the exchange

Hop `h` of the kernel, for any `h`: the device copies its slot `h` into slot `h + 1` of the device after it, waits until
the copy has left, waits until its own slot `h + 1` has arrived, and loads that slot.
-/
module

public import proofs.«01_k».proof.Proof.Protocol

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Site → ℕ)

/-- Any slot counts the same. -/
theorem slot_credit (k : Fin 8) : (slotM k).view.dmaCredit = N := rfl

/-- A slot's resource, unfolded. -/
theorem slotHas_eq (c : Dev nD) (k : Fin 8) (X : FVec F S2x128x256 .f32) :
    (slotHas c k X : sProp 𝕄) = iprop(∃ f : Buf (Elt F) ((slotM k).view.loc (c : Thread nD τ)), ⌜(slotM k).view.read (Elt F) f = X⌝
      ∗ ((slotM k).view.loc (c : Thread nD τ) ↦[(slotM k).view.set]{fullShare} f)) := rfl

/-- A slot rewritten whole with what the other slot holds, is that slot holding it. -/
theorem landed (c : Dev nD) (k k' : Fin 8) (fd : Buf (Elt F) ((slotM k).view.loc (c : Thread nD τ)))
    (fs : Buf (Elt F) ((slotM k').view.loc (c : Thread nD τ))) :
    ((slotM k).view.loc (c : Thread nD τ) ↦[(slotM k).view.set]{fullShare} (slotM k).view.write (Elt F) fd ((slotM k').view.read (Elt F) fs) Finset.univ)
      ⊢ (slotHas c k ((slotM k').view.read (Elt F) fs) : sProp 𝕄) := by
  rw [slotHas_eq]
  iintro H
  iexists (slotM k).view.write (Elt F) fd ((slotM k').view.read (Elt F) fs) Finset.univ
  isplitr
  · ipureintro; exact View.read_write_univ _ _
  · iexact H

/-- The copy of hop `h`. -/
theorem wp_copy (c n : Dev nD) (hn : n = nxt c) (h : Fin 7)
    {hsc : (slotM h.succ : Memref sig (Dev.tc n : Thread nD τ).2.kind .vmem S2x128x256 .f32).view.ref.isScScratch = false}
    {hsrc : (slotM h.castSucc).view.WordExact} {hdst : (slotM h.succ).view.WordExact}
    {hsem : DmaTarget.Typed .vmem (semAt (.recv h)) (.remote (Dev.tc n : Thread nD τ) (slotM h.succ) (semAt (.send h)) hsc)}
    {α : Type} {Q : α → sProp 𝕄} {k : PUnit → Prog (TpuEff nD τ sig (Elt F) Λ₀ .tc) α} (W : Waits sig Unit) :
    iprop(records m K ∗ slotHas c h.castSucc (share m h.castSucc c) ∗ slotAny (F := F) (nxt c) h.succ
        ∗ owes (c : Thread nD τ) (owedFrom c h.val) W
        ∗ dutyTok ER (cell c (.send h)) 0 false ∗ dutyTok ER (cell (nxt c) (.recv h)) 0 false)
      ⊢ iprop(((cred (tallyAt (cell c (.send h)) () N) ∗ owes (c : Thread nD τ) (owedFrom c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM h.castSucc) (.remote (Dev.tc n : Thread nD τ) (slotM h.succ) (semAt (.send h)) hsc) (semAt (.recv h)) hsrc hdst hsem) k) Q) := by
  subst hn
  unfold slotAny
  iintro ⟨#HR, Hs, ⟨%Y, Hd⟩, HO, HtS, HtV⟩ Hk
  ihave Hs' := (Entails.of_eq (slotHas_eq c h.castSucc _)) $$ Hs
  ihave Hd' := (Entails.of_eq (slotHas_eq (nxt c) h.succ Y)) $$ Hd
  icases Hs' with ⟨%fs, %hfs, Hs⟩
  icases Hd' with ⟨%fd, -, Hd⟩
  iapply (Rounds.wp_send_pointsTo 𝒱₀ ER (sched m) (c : Thread nD τ) none (κ₁ := K (c, .send h)) (κ₂ := K (nxt c, .recv h))
    (c' := (nxt c : Thread nD τ)) (fs := fs) (fd := fd)
    (r₁ := 0) (r₂ := 0) (d₁ := false) (d₂ := false)
    (by rw [duties_hop]; exact Finset.mem_singleton_self _) (by rw [duties_hop]; exact Finset.mem_singleton_self _)
    () () N rfl (amount_hop m c _ false) (amount_hop m (nxt c) _ false) (owedFrom c (h.val + 1)) (owedFrom_step c h) (W := W)
    (by rw [payload_cell]
        show _ ⊢ slotHas c h.castSucc (share m h.castSucc c)
        rw [← hfs, slotHas_eq]
        iintro H
        iexists fs
        isplitr; · (ipureintro; rfl)
        iexact H)
    (by rw [payload_cell]
        show _ ⊢ slotHas (nxt c) h.succ (share m h.succ (nxt c))
        rw [show share m h.succ (nxt c) = share m h.castSucc c from congrArg (inW m) (origin_succ_nxt h c), ← hfs]
        exact landed (nxt c) h.succ h.castSucc fd fs)) $$ [Hs Hd HO HtS HtV]
  · isplitr; · iapply (records_inv m K c (.send h)); iexact HR
    isplitr; · iapply (records_inv m K (nxt c) (.recv h)); iexact HR
    isplitl [Hs]; · iexact Hs
    isplitl [Hd]; · iexact Hd
    isplitl [HO]; · iexact HO
    isplitl [HtS]; · iexact HtS
    isplitr; · iapply (records_reached m K c (.send h)); iexact HR
    isplitl [HtV]; · iexact HtV
    iapply (records_reached m K (nxt c) (.recv h)); iexact HR
  iexact Hk

/-- A wait at one of hop `h`'s cells, whose round then is over: the payload and the counter at zero. -/
theorem wp_await (c : Dev nD) (h : Fin 7) (x : Fin 7 ⊕ Fin 7) (hx : x = .inl h ∨ x = .inr h) {q : DmaSem sig} (hq : semAt (.inr x) = .dma q)
    {a : Memref sig (c : Thread nD τ).2.kind .vmem S2x128x256 .f32} {b : Memref sig .tc .vmem S2x128x256 .f32} (hb : b.view.dmaCredit = N)
    {ha : a.view.WordExact} {hbw : b.view.WordExact}
    {α : Type} {Q : α → sProp 𝕄} {k : PUnit → Prog (TpuEff nD τ sig (Elt F) Λ₀ .tc) α} (W : Waits sig Unit) :
    iprop(records m K ∗ levAts L lv ∗ cred (tallyAt (cell c (.inr x)) () N) ∗ owes (c : Thread nD τ) (owedFrom c (h.val + 1)) W
        ∗ atPos ER (cell c (.inr x)) 0 ∅ 0)
      ⊢ iprop(((owes (c : Thread nD τ) (owedFrom c (h.val + 1)) (insert (semAt (.inr x), ()) W) ∗ pay m c (.inr x) false ∗ semVal (cell c (.inr x)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q a b ha hbw) k) Q) := by
  iintro ⟨#HR, #Hlev, Hc, HO, Hat⟩ Hk
  iapply (Rounds.wp_wait_rest_token 𝒱₀ ER (sched m) (c : Thread nD τ) none (κ := K (c, .inr x)) (sm := semAt (.inr x)) (k' := N)
      (fun K' => (wpE_waitDma2_eq 𝒱₀ (c : Thread nD τ) none Set.univ K').trans (by rw [hq, hb])) (Set.mem_univ _) ()
      (O := owedFrom c (h.val + 1)) (W := W) (R := 0) (m := 0) (T := ∅)
      (by rw [Nat.zero_add, expect_hop])) $$ [Hc HO Hat]
  · isplitr; · iapply (records_inv m K c (.inr x)); iexact HR
    isplitl [Hc]; · iexact Hc
    isplitl [HO]; · iexact HO
    isplitr; · iapply (mayWait_hop c h (.inr x) (hx.imp (congrArg Sum.inr) (congrArg Sum.inr))); iexact Hlev
    iexact Hat
  iintro ⟨HO, Hat, -, Hpay⟩
  ihave Hp := (Entails.of_eq (rest_hop m c x)) $$ Hpay
  imod (Rounds.cell_close ER (sched m) (Set.mem_univ (K (c, .inr x))) (fun h => h) (R := 0 + 1) (duties_later m (cell c (.inr x)))) $$ [Hat] with Hz
  · isplitr; · iapply (records_inv m K c (.inr x)); iexact HR
    iexact Hat
  iapply Hk
  isplitl [HO]; · iexact HO
  isplitl [Hp] <;> iassumption

/-- A load or store of slot `k` through the buffer touches the slot's elements only. -/
theorem slot_access (k : Fin 8) : (bufM.access (slotR k)).set ⊆ (slotM k).view.set := (View.set_reshape (bufM.access (slotR k)) _).ge

/-- A load of a slot in hand. -/
theorem wp_load_slot (c : Dev nD) (k : Fin 8) (X : FVec F S2x128x256 .f32) {α : Type} {Q : α → sProp 𝕄}
    {hl : bufM.view.LoadsAt (slotR k).toLoadRect} {kont : Vec F S1x2x128x256 .f32 → Prog (TpuEff nD τ sig (Elt F) Λ₀ .tc) α} :
    (slotHas c k X : sProp 𝕄)
      ⊢ iprop((slotHas c k X -∗ wp frame (wpE (defs₀ (F := F)) 𝒱₀ (c : Thread nD τ) none) Set.univ (kont (k0_pay8 X)) Q)
          -∗ wp frame (wpE (defs₀ (F := F)) 𝒱₀ (c : Thread nD τ) none) Set.univ (.op (.load bufM (slotR k).toLoadRect hl) kont) Q) := by
  rw [slotHas_eq]
  iintro ⟨%f, %hf, H⟩ Hk
  iapply (wp_load_rect 𝒱₀ (c : Thread nD τ) none Set.univ (m := bufM) (r := slotR k) (f := f) (slot_access k)) $$ H
  iintro H
  rw [show (bufM.access (slotR k)).read (Elt F) f = k0_pay8 X from read_slot k f X hf]
  iapply Hk
  iexists f
  isplitr; · (ipureintro; exact hf)
  iexact H

/-- A store of a share into a slot in hand. -/
theorem wp_store_slot (c : Dev nD) (k : Fin 8) (Y X : FVec F S2x128x256 .f32) {α : Type} {Q : α → sProp 𝕄}
    {hx : (bufM.access (slotR k)).Stores Finset.univ} {hm : (Finset.univ : Finset (slotR k).shape.Idx) = Finset.univ ∨ ∀ a, (slotR k).stride a = 1}
    {kont : PUnit → Prog (TpuEff nD τ sig (Elt F) Λ₀ .tc) α} :
    (slotHas c k Y : sProp 𝕄)
      ⊢ iprop((slotHas c k X -∗ wp frame (wpE (defs₀ (F := F)) 𝒱₀ (c : Thread nD τ) none) Set.univ (kont ⟨⟩) Q)
          -∗ wp frame (wpE (defs₀ (F := F)) 𝒱₀ (c : Thread nD τ) none) Set.univ (.op (.store bufM (slotR k) (k0_pay8 X) Finset.univ hx hm) kont) Q) := by
  rw [slotHas_eq, slotHas_eq]
  iintro ⟨%f, -, H⟩ Hk
  iapply (wp_store 𝒱₀ (c : Thread nD τ) none Set.univ (m := bufM) (r := slotR k) (Mk := Finset.univ) (f := f) (slot_access k)) $$ H
  iintro H
  iapply Hk
  iexists (bufM.access (slotR k)).write (Elt F) f (k0_pay8 X) Finset.univ
  isplitr; · (ipureintro; exact write_slot k f X)
  iexact H

/-- Hop `h` whole: from its kit, the next device's slot `h + 1` and the device's own filled slot `h`, the kernel goes on
    with slot `h + 1` filled and loaded, slot `h` back, and the hop's two counters at zero. -/
theorem wp_hop (c n : Dev nD) (hn : n = nxt c) (h : Fin 7) {s v : DmaSem sig} (hs : s = sendQ h) (hv : v = recvQ h)
    {hsc : (slotM h.succ : Memref sig (Dev.tc n : Thread nD τ).2.kind .vmem S2x128x256 .f32).view.ref.isScScratch = false}
    {hsrc : (slotM h.castSucc).view.WordExact} {hdst : (slotM h.succ).view.WordExact}
    {hsem : DmaTarget.Typed .vmem (.dma v) (.remote (Dev.tc n : Thread nD τ) (slotM h.succ) (.dma s) hsc)}
    {ha hb' : (slotM h.succ).view.WordExact} {hb ha' : (slotM h.castSucc).view.WordExact} {hl : bufM.view.LoadsAt (slotR h.succ).toLoadRect}
    {α : Type} {Q : α → sProp 𝕄} {k : Vec F S1x2x128x256 .f32 → Prog (TpuEff nD τ sig (Elt F) Λ₀ .tc) α} :
    iprop(records m K ∗ levAts L lv ∗ hopKit (F := F) c h ∗ slotAny (F := F) (nxt c) h.succ ∗ slotHas c h.castSucc (share m h.castSucc c)
        ∗ (∃ W, owes (c : Thread nD τ) (owedFrom c h.val) W))
      ⊢ iprop((((∃ W, owes (c : Thread nD τ) (owedFrom c (h.val + 1)) W) ∗ slotHas c h.castSucc (share m h.castSucc c) ∗ slotHas c h.succ (share m h.succ c)
              ∗ (semVal (cell c (.send h)) 0 ∗ semVal (cell c (.recv h)) 0))
            -∗ wp frame (wpE (defs₀ (F := F)) 𝒱₀ (c : Thread nD τ) none) Set.univ (k (k0_pay8 (share m h.succ c))) Q)
          -∗ wp frame (wpE (defs₀ (F := F)) 𝒱₀ (c : Thread nD τ) none) Set.univ
              (.op (.enqueueDma (slotM h.castSucc) (.remote (Dev.tc n : Thread nD τ) (slotM h.succ) (.dma s) hsc) (.dma v) hsrc hdst hsem) fun _ =>
                .op (.waitDma2 s (slotM h.succ) (slotM h.castSucc) ha hb) fun _ =>
                .op (.waitDma2 v (slotM h.castSucc) (slotM h.succ) ha' hb') fun _ =>
                .op (.load bufM (slotR h.succ).toLoadRect hl) k) Q) := by
  subst hs hv
  unfold hopKit
  iintro ⟨#HR, #Hlev, ⟨HatS, HatV, HtS, HtV, HcV⟩, Hn, Hs, ⟨%W, HO⟩⟩ Hk
  iapply (wp_copy m K c n hn h W) $$ [Hs Hn HO HtS HtV]
  · isplitr; · iexact HR
    isplitl [Hs]; · iexact Hs
    isplitl [Hn]; · iexact Hn
    isplitl [HO]; · iexact HO
    isplitl [HtS] <;> iassumption
  iintro ⟨HcS, HO⟩
  iapply (wp_await m K c h (.inl h) (.inl rfl) (q := sendQ h) rfl (slot_credit h.castSucc) W) $$ [HcS HO HatS]
  · isplitr; · iexact HR
    isplitr; · iexact Hlev
    isplitl [HcS]; · iexact HcS
    isplitl [HO] <;> iassumption
  iintro ⟨HO, Hs, HzS⟩
  ihave Hs := (Entails.of_eq (show pay m c (.send h) false = slotHas c h.castSucc (share m h.castSucc c) from rfl)) $$ Hs
  iapply (wp_await m K c h (.inr h) (.inr rfl) (q := recvQ h) rfl (slot_credit h.succ) _) $$ [HcV HO HatV]
  · isplitr; · iexact HR
    isplitr; · iexact Hlev
    isplitl [HcV]; · iexact HcV
    isplitl [HO] <;> iassumption
  iintro ⟨HO, Hd, HzV⟩
  ihave Hd := (Entails.of_eq (show pay m c (.recv h) false = slotHas c h.succ (share m h.succ c) from rfl)) $$ Hd
  iapply (wp_load_slot c h.succ (share m h.succ c)) $$ Hd
  iintro Hd
  iapply Hk
  isplitl [HO]; · iexists _; iexact HO
  isplitl [Hs]; · iexact Hs
  isplitl [Hd]; · iexact Hd
  isplitl [HzS] <;> iassumption

end Cert.Moe

end
-- ==== Proof.Value.lean ====
/-
# 01_k — the value the kernel computes

The kernel's own steps, named: the running sum after the device's own share, and after each of the seven shares that
arrive. Each is the printed step applied to the values loaded; nothing is simplified here.
-/
module

public import proofs.«01_k».proof.Proof.Protocol

@[expose] public section

set_option maxRecDepth 16384

noncomputable section

namespace Cert.Moe

open Cert.KernelIdeal Cert.KernelIdeal.Gen

open Idealize.ShloMosaic
open Idealize.ShloMosaic.TcCoe

variable {F : FTy → Type} [FloatOps F]

/-- The device's number, as the kernel computes it. -/
abbrev me (c : Dev nD) : BitVec 32 := Scalar.remsi (Scalar.divsi (Dev.word c) 1#32) 8#32
/-- The number of the device a share comes from, as the kernel computes it after hop `j`. -/
abbrev orgw (v2 j : BitVec 32) : BitVec 32 := Scalar.remsi (Scalar.subi (Scalar.subi (Scalar.addi v2 8#32) 1#32) j) 8#32

section Steps

variable (v2 : BitVec 32) (v14 : FVec F S256x128 .f32) (v28 : IVec S256x1 32) (v35 : FVec F S256x1 .f32) (a : FVec F S256x256 .f32)
  (X : FVec F S2x128x256 .f32)

/-- The sum after the device's own share. -/
def stepOwn (v26 : FVec F S256x16 .f32) (v31 : IVec S256x16 1) (sW : FVec F S128x256 .f32) : FVec F S256x256 .f32 :=
  k0_pay12 (k0_pay7 v14 sW) (k0_pay9 (k0_pay8 X)) (k0_pay10 v2 v14 v26 v28 v31 (k0_pay8 X)) (k0_pay11 v2 v14 v26 v28 v31)
/-- The sum after the share that hop 0 brings, -/
def step0 : FVec F S256x256 .f32 := k0_pay13 v2 v14 v28 v35 a (k0_pay8 X)
/-- hop 1, -/
def step1 : FVec F S256x256 .f32 := k0_pay14 v2 v14 v28 v35 a 8#32 (k0_pay8 X)
/-- hop 2, -/
def step2 : FVec F S256x256 .f32 := k0_pay15 v14 v28 v35 a (orgw v2 2#32) (k0_pay8 X)
/-- hop 3, -/
def step3 : FVec F S256x256 .f32 :=
  k0_pay18 v14 v28 v35 a (orgw v2 3#32) (k0_pay16 (k0_pay8 X)) (k0_pay17 (F := F)) (Scalar.muli 2#32 (orgw v2 3#32)) 0#32
/-- hop 4, -/
def step4 : FVec F S256x256 .f32 :=
  k0_pay23 v14 v28 v35 a (orgw v2 4#32) (k0_pay19 (k0_pay8 X)) (k0_pay20 (F := F)) (k0_pay21 v2 v14 v28 v35) (k0_pay22 (k0_pay8 X))
/-- hop 5, -/
def step5 : FVec F S256x256 .f32 := k0_pay27 v14 v28 v35 a (k0_pay24 (k0_pay8 X)) (k0_pay25 v2 v14 v28 v35 (k0_pay8 X)) (k0_pay26 v2)
/-- hop 6. -/
def step6 : FVec F S256x256 .f32 :=
  k0_pay1 a (k0_pay29 v2 v14 v28 v35 (k0_pay8 X)) (k0_pay30 v2 v14 v28 v35) (k0_pay31 (k0_pay8 X)) (constant S256x256 .f32 0x00000000#32)

end Steps

/-- The kernel's result on a device whose number is `v2`, from its tokens, the router's weights, the tokens' experts, its
    own share, the seven shares in the order they arrive and the shared weights. -/
def result (v2 : BitVec 32) (x : FVec F S256x128 .f32) (rW : FVec F S128x16 .f32) (ri : IVec S256x1 32)
    (W₀ : FVec F S2x128x256 .f32) (W : Fin 7 → FVec F S2x128x256 .f32) (sW : FVec F S128x256 .f32) : FVec F S256x256 .f32 :=
  let v14 := k0_pay2 x
  let v28 := k0_pay4 (F := F) ri
  let v35 := k0_pay6 (k0_pay3 x rW) (k0_pay5 (F := F) ri)
  step6 v2 v14 v28 v35 (step5 v2 v14 v28 v35 (step4 v2 v14 v28 v35 (step3 v2 v14 v28 v35 (step2 v2 v14 v28 v35 (step1 v2 v14 v28 v35
    (step0 v2 v14 v28 v35 (stepOwn v2 v14 v28 W₀ (k0_pay3 x rW) (k0_pay5 (F := F) ri) sW) (W 0)) (W 1)) (W 2)) (W 3)) (W 4)) (W 5)) (W 6)

/-- The kernel's result on device `c` of the machine. -/
def outAt (m : (ℓ : Loc nD τ sig) → Buf (Elt F) ℓ) (c : Dev nD) : (cc0_stg5_0 : Ref sig .tc).ty.Contents (Elt F) :=
  result (me c) (inX m c) (inR m c) (inI m c) (inW m c) (fun h => share m h.succ c) (inS m c)

end Cert.Moe

end
-- ==== Proof.Body.lean ====
/-
# 01_k — the kernel's body on one device

The body run once at a device `c` of the ring, whichever it is: the two signals and the wait at the barrier, the loads of
the inputs, the seven hops, and the store of the result.
-/
module

public import proofs.«01_k».proof.Proof.Hop
public import proofs.«01_k».proof.Proof.Value

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The pipeline's proof data -/

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The proof data of the launch on device `c`: the arrays as they are, the inputs' staging buffers unchanged and the
    output's holding the result. -/
def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inR m c
    | ⟨2, _⟩ => inI m c
    | ⟨3, _⟩ => inW m c
    | ⟨4, _⟩ => inS m c
    | ⟨5, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

/-! ## Small regroupings -/

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- Slot 0, and the seven that are opened to the device before. -/
theorem slots_split (c : Dev nD) : (bigSep Finset.univ fun k : Fin 8 => (slotAny c k : sProp 𝕄)) = iprop(slotAny c 0 ∗ opened c) := by
  unfold opened; rw [bigSep_eight, bigSep_seven]; rfl

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

omit [FloatOps F] in
theorem zero2 : (![0, 0] : Fin 2 → Nat) = fun _ => 0 := funext fun a => by fin_cases a <;> rfl
omit [FloatOps F] in
theorem zero3 : (![0, 0, 0] : Fin 3 → Nat) = fun _ => 0 := funext fun a => by fin_cases a <;> rfl

/-! ## The run -/

variable (K : Dev nD × Site → ℕ)

/-- What the body starts from, the names fixed. -/
def bodyPre (c : Dev nD) : sProp 𝕄 :=
  iprop(records m K ∗ levAts L lv ∗ barKit (F := F) c ∗ (bigSep Finset.univ fun h : Fin 7 => hopKit (F := F) c h)
    ∗ (∃ f : Buf (Elt F) ((c : Thread nD τ).loc cc0_scratch0), (c : Thread nD τ).loc cc0_scratch0 ↦{fullShare} f)
    ∗ (∃ W, owes (c : Thread nD τ) (owed₀ c) W)
    ∗ (((c : Thread nD τ).loc cc0_stg0_0) ↦{fullShare} inX m c) ∗ (((c : Thread nD τ).loc cc0_stg1_0) ↦{fullShare} inR m c)
    ∗ (((c : Thread nD τ).loc cc0_stg2_0) ↦{fullShare} inI m c) ∗ (((c : Thread nD τ).loc cc0_stg3_0) ↦{fullShare} inW m c)
    ∗ (((c : Thread nD τ).loc cc0_stg4_0) ↦{fullShare} inS m c)
    ∗ (∃ f : Buf (Elt F) ((c : Thread nD τ).loc cc0_stg5_0), ((c : Thread nD τ).loc cc0_stg5_0) ↦{fullShare} f))

/-- What it ends in. -/
def bodyPost (c : Dev nD) : sProp 𝕄 :=
  iprop(Φ₁ (F := F) c ∗ (∃ W, owes (c : Thread nD τ) 0 W)
    ∗ (((c : Thread nD τ).loc cc0_stg0_0) ↦{fullShare} inX m c) ∗ (((c : Thread nD τ).loc cc0_stg1_0) ↦{fullShare} inR m c)
    ∗ (((c : Thread nD τ).loc cc0_stg2_0) ↦{fullShare} inI m c) ∗ (((c : Thread nD τ).loc cc0_stg3_0) ↦{fullShare} inW m c)
    ∗ (((c : Thread nD τ).loc cc0_stg4_0) ↦{fullShare} inS m c) ∗ (((c : Thread nD τ).loc cc0_stg5_0) ↦{fullShare} outAt m c))

set_option maxHeartbeats 1000000 in
/-- The body from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  have rx : View.readAt (Elt F) (Memref.whole cc0_stg0_0).view (Rect.unit (s := S256x128) ![0, 0] ![256, 128] inb_S256x128_S256x128_0_0).toLoadRect (inX m c)
      = inX m c := Memref.readAt_unit_zero (Elt F) cc0_stg0_0 zero2 _ (inX m c)
  have rr : View.readAt (Elt F) (Memref.whole cc0_stg1_0).view (Rect.unit (s := S128x16) ![0, 0] ![128, 16] inb_S128x16_S128x16_0_0).toLoadRect (inR m c)
      = inR m c := Memref.readAt_unit_zero (Elt F) cc0_stg1_0 zero2 _ (inR m c)
  have ri : View.readAt (Elt F) (Memref.whole cc0_stg2_0).view (Rect.unit (s := S256x1) ![0, 0] ![256, 1] inb_S256x1_S256x1_0_0).toLoadRect (inI m c)
      = inI m c := Memref.readAt_unit_zero (Elt F) cc0_stg2_0 zero2 _ (inI m c)
  have rs : View.readAt (Elt F) (Memref.whole cc0_stg4_0).view (Rect.unit (s := S128x256) ![0, 0] ![128, 256] inb_S128x256_S128x256_0_0).toLoadRect (inS m c)
      = inS m c := Memref.readAt_unit_zero (Elt F) cc0_stg4_0 zero2 _ (inS m c)
  have rw : View.readAt (Elt F) (Memref.whole cc0_stg3_0).view (Rect.unit (s := S2x128x256) ![0, 0, 0] ![2, 128, 256] inb_S2x128x256_S2x128x256_0_0_0).toLoadRect (inW m c)
      = inW m c := Memref.readAt_unit_zero (Elt F) cc0_stg3_0 zero3 _ (inW m c)
  have ro (f w : (cc0_stg5_0 : Ref sig .tc).ty.Contents (Elt F)) : View.write (Elt F)
      ((Memref.whole cc0_stg5_0).access (Rect.unit (s := S256x256) ![0, 0] ![256, 256] inb_S256x256_S256x256_0_0)) f w Finset.univ = w :=
    Memref.write_access_unit_zero_univ (Elt F) cc0_stg5_0 zero2 _ f w
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre barKit
  iintro ⟨⟨#HR, #Hlev, ⟨HatB, HtP, HtN, HcB⟩, Hkits, ⟨%f0, Hbuf⟩, ⟨%W, HO⟩, Hx, Hr, Hi, Hw, Hs, ⟨%f5, Hout⟩⟩, Hk⟩
  simp only [dev1_eq c, dev2_eq c]
  -- the signal to the device before: this device's slots 1 to 7 go with it
  ihave Hsl := (slots_of_whole c f0) $$ Hbuf
  ihave Hsl' := (Entails.of_eq (slots_split (F := F) c)) $$ Hsl
  icases Hsl' with ⟨Ha0, Hopen⟩
  ihave Ha0 := (Entails.of_eq (show (slotAny c 0 : sProp 𝕄) = iprop(∃ X, slotHas c 0 X) from rfl)) $$ Ha0
  icases Ha0 with ⟨%Y, Ha⟩
  unfold owed₀
  iapply (Rounds.wp_signal 𝒱₀ ER (sched m) (c : Thread nD τ) none (dst := (prv c : Thread nD τ)) (κ := K (prv c, .bar)) (sem := barS)
      (d := true) (by rw [show ((prv c : Thread nD τ), SemLoc.reg barS) = cell (prv c) .bar from rfl, duties_bar]; exact Finset.mem_univ _)
      ((amount_bar m (prv c) true).trans (by decide)) () (owed₁ c) rfl)
    $$ [HO HtP Hopen]
  · isplitr; · iapply (records_inv m K (prv c) .bar); iexact HR
    isplitl [HO]; · iexact HO
    isplitl [HtP]; · iexact HtP
    isplitl [Hopen]
    · iapply (Entails.of_eq (show opened (F := F) c = (sched m).payload ((prv c : Thread nD τ), SemLoc.reg barS) 0 true from by
        rw [show ((prv c : Thread nD τ), SemLoc.reg barS) = cell (prv c) .bar from rfl, payload_cell]; show opened c = opened (nxt (prv c)); rw [nxt_prv]))
      iexact Hopen
    · iapply (records_reached m K (prv c) .bar); iexact HR
  iintro HO
  -- the signal to the device after
  unfold owed₁
  iapply (Rounds.wp_signal 𝒱₀ ER (sched m) (c : Thread nD τ) none (dst := (nxt c : Thread nD τ)) (κ := K (nxt c, .bar)) (sem := barS)
      (d := false) (by rw [show ((nxt c : Thread nD τ), SemLoc.reg barS) = cell (nxt c) .bar from rfl, duties_bar]; exact Finset.mem_univ _)
      ((amount_bar m (nxt c) false).trans (by decide)) () (owedFrom c 0) rfl)
    $$ [HO HtN]
  · isplitr; · iapply (records_inv m K (nxt c) .bar); iexact HR
    isplitl [HO]; · iexact HO
    isplitl [HtN]; · iexact HtN
    isplitr
    · iapply (Entails.of_eq (show (iprop(emp) : sProp 𝕄) = (sched m).payload ((nxt c : Thread nD τ), SemLoc.reg barS) 0 false from by
        rw [show ((nxt c : Thread nD τ), SemLoc.reg barS) = cell (nxt c) .bar from rfl, payload_cell]; rfl))
      iempintro
    · iapply (records_reached m K (nxt c) .bar); iexact HR
  iintro HO
  -- the wait for both neighbours: the next device's slots 1 to 7 come with it
  iapply (Rounds.wp_wait_rest_token 𝒱₀ ER (sched m) (c : Thread nD τ) none (κ := K (c, .bar)) (sm := semAt .bar)
      (wpE_semWait_eq 𝒱₀ (c : Thread nD τ) none Set.univ) (Set.mem_univ _) () (O := owedFrom c 0) (W := W) (R := 0) (m := 0) (T := ∅)
      (by rw [expect_bar]; decide)) $$ [HcB HO HatB]
  · isplitr; · iapply (records_inv m K c .bar); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  icases Hp with ⟨-, Hn⟩
  imod (Rounds.cell_close ER (sched m) (Set.mem_univ (K (c, .bar))) (fun h => h) (R := 0 + 1) (duties_later m (cell c .bar))) $$ [HatB] with HzB
  · isplitr; · iapply (records_inv m K c .bar); iexact HR
    iexact HatB
  -- the loads of the tokens, the router and the indices
  iapply (wp_load 𝒱₀ (c : Thread nD τ) none Set.univ (m := Memref.whole cc0_stg0_0) (Finset.subset_univ _)) $$ Hx; iintro Hx
  simp only [rx]
  iapply (wp_load 𝒱₀ (c : Thread nD τ) none Set.univ (m := Memref.whole cc0_stg1_0) (Finset.subset_univ _)) $$ Hr; iintro Hr
  simp only [rr]
  iapply (wp_load 𝒱₀ (c : Thread nD τ) none Set.univ (m := Memref.whole cc0_stg2_0) (Finset.subset_univ _)) $$ Hi; iintro Hi
  simp only [ri]
  -- the shared weights, and the device's own share, stored in slot 0 and loaded from it
  iapply (wp_load 𝒱₀ (c : Thread nD τ) none Set.univ (m := Memref.whole cc0_stg4_0) (Finset.subset_univ _)) $$ Hs; iintro Hs
  simp only [rs]
  iapply (wp_load 𝒱₀ (c : Thread nD τ) none Set.univ (m := Memref.whole cc0_stg3_0) (Finset.subset_univ _)) $$ Hw; iintro Hw
  simp only [rw]
  iapply (wp_load_slot c 0 Y) $$ Ha; iintro Ha
  iapply (wp_store_slot c 0 Y (inW m c)) $$ Ha; iintro Ha
  iapply (wp_load_slot c 0 (inW m c)) $$ Ha; iintro Ha
  -- the kits and the slots of the hops
  ihave Hks := (Entails.of_eq (bigSep_seven (F := F) fun h => hopKit c h)) $$ Hkits
  icases Hks with ⟨Hk0, Hk1, Hk2, Hk3, Hk4, Hk5, Hk6⟩
  unfold opened
  ihave Hns := (Entails.of_eq (bigSep_seven (F := F) fun h => slotAny (nxt c) h.succ)) $$ Hn
  icases Hns with ⟨Hn0, Hn1, Hn2, Hn3, Hn4, Hn5, Hn6⟩
  have h0 : inW m c = share m (0 : Fin 7).castSucc c := congrArg (inW m) (origin_zero c).symm
  ihave Ha := (Entails.of_eq (congrArg (slotHas c 0) h0)) $$ Ha
  have hO : (owes (c : Thread nD τ) (owedFrom c 0) (insert (semAt .bar, ()) W) : sProp 𝕄) ⊢ iprop(∃ W, owes (c : Thread nD τ) (owedFrom c (0 : Fin 7).val) W) :=
    exists_intro (Φ := fun W => owes (c : Thread nD τ) (owedFrom c 0) W) _
  ihave HO := hO $$ HO
  -- hop 0
  iapply (wp_hop m K c _ (Fin.ext (k0_dev3_eq c)) 0 rfl rfl) $$ [Hk0 Hn0 Ha HO]
  · isplitr; · iexact HR
    isplitr; · iexact Hlev
    isplitl [Hk0]; · iexact Hk0
    isplitl [Hn0]; · iexact Hn0
    isplitl [Ha]; · iexact Ha
    iexact HO
  iintro ⟨HO, Hb0, Ha, Hz0⟩
  -- hop 1
  iapply (wp_hop m K c _ (Fin.ext (k0_dev4_eq c)) 1 rfl rfl) $$ [Hk1 Hn1 Ha HO]
  · isplitr; · iexact HR
    isplitr; · iexact Hlev
    isplitl [Hk1]; · iexact Hk1
    isplitl [Hn1]; · iexact Hn1
    isplitl [Ha]; · iexact Ha
    iexact HO
  iintro ⟨HO, Hb1, Ha, Hz1⟩
  -- hop 2
  iapply (wp_hop m K c _ (Fin.ext (k0_dev5_eq c)) 2 rfl rfl) $$ [Hk2 Hn2 Ha HO]
  · isplitr; · iexact HR
    isplitr; · iexact Hlev
    isplitl [Hk2]; · iexact Hk2
    isplitl [Hn2]; · iexact Hn2
    isplitl [Ha]; · iexact Ha
    iexact HO
  iintro ⟨HO, Hb2, Ha, Hz2⟩
  -- hop 3
  iapply (wp_hop m K c _ (Fin.ext (k0_dev6_eq c)) 3 rfl rfl) $$ [Hk3 Hn3 Ha HO]
  · isplitr; · iexact HR
    isplitr; · iexact Hlev
    isplitl [Hk3]; · iexact Hk3
    isplitl [Hn3]; · iexact Hn3
    isplitl [Ha]; · iexact Ha
    iexact HO
  iintro ⟨HO, Hb3, Ha, Hz3⟩
  -- hop 4
  iapply (wp_hop m K c _ (Fin.ext (k0_dev7_eq c)) 4 rfl rfl) $$ [Hk4 Hn4 Ha HO]
  · isplitr; · iexact HR
    isplitr; · iexact Hlev
    isplitl [Hk4]; · iexact Hk4
    isplitl [Hn4]; · iexact Hn4
    isplitl [Ha]; · iexact Ha
    iexact HO
  iintro ⟨HO, Hb4, Ha, Hz4⟩
  -- hop 5
  iapply (wp_hop m K c _ (Fin.ext (k0_dev8_eq c)) 5 rfl rfl) $$ [Hk5 Hn5 Ha HO]
  · isplitr; · iexact HR
    isplitr; · iexact Hlev
    isplitl [Hk5]; · iexact Hk5
    isplitl [Hn5]; · iexact Hn5
    isplitl [Ha]; · iexact Ha
    iexact HO
  iintro ⟨HO, Hb5, Ha, Hz5⟩
  -- hop 6
  iapply (wp_hop m K c _ (Fin.ext (k0_dev9_eq c)) 6 rfl rfl) $$ [Hk6 Hn6 Ha HO]
  · isplitr; · iexact HR
    isplitr; · iexact Hlev
    isplitl [Hk6]; · iexact Hk6
    isplitl [Hn6]; · iexact Hn6
    isplitl [Ha]; · iexact Ha
    iexact HO
  iintro ⟨HO, Hb6, Ha, Hz6⟩
  -- the store of the result
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0)
    (r := Rect.unit (s := S256x256) ![0, 0] ![256, 256] inb_S256x256_S256x256_0_0) (Mk := Finset.univ) (Finset.subset_univ _)) $$ Hout
  iintro Hout
  simp only [ro]
  rw [wp_ret]; imodintro
  iapply Hk
  unfold bodyPost Φ₁
  isplitl [Hb0 Hb1 Hb2 Hb3 Hb4 Hb5 Hb6 Ha HzB Hz0 Hz1 Hz2 Hz3 Hz4 Hz5 Hz6]
  · isplitl [Hb0 Hb1 Hb2 Hb3 Hb4 Hb5 Hb6 Ha]
    · iapply (whole_of_slots c fun k => share m k c)
      iapply (Entails.of_eq (bigSep_eight (F := F) fun k => slotHas c k (share m k c)).symm)
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      iexact Ha
    isplitl [HzB]; · iexact HzB
    iapply (Entails.of_eq (bigSep_seven (F := F) fun h => iprop(semVal (cell c (.send h)) 0 ∗ semVal (cell c (.recv h)) 0)).symm)
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · icases HO with ⟨%W', HO⟩
    iexists W'
    iapply (Entails.of_eq (congrArg (fun O => (owes (c : Thread nD τ) O W' : sProp 𝕄)) (owedFrom_end c)))
    iexact HO
  isplitl [Hx]; · iexact Hx
  isplitl [Hr]; · iexact Hr
  isplitl [Hi]; · iexact Hi
  isplitl [Hw]; · iexact Hw
  isplitl [Hs]; · iexact Hs
  unfold outAt result stepOwn step0 step1 step2 step3 step4 step5 step6
  iexact Hout

/-- What the pipeline hands the body. -/
def bodyPre' (c : Dev nD) : sProp 𝕄 :=
  iprop(Φ₀ m c ∗ (dats m 0 c).owesAt () t₀.castSucc
    ∗ (∃ d, stg c cc0_stg0_0 ((dats m 0 c).before (0 : Fin 6) t₀ d)) ∗ (∃ d, stg c cc0_stg1_0 ((dats m 0 c).before (1 : Fin 6) t₀ d))
    ∗ (∃ d, stg c cc0_stg2_0 ((dats m 0 c).before (2 : Fin 6) t₀ d)) ∗ (∃ d, stg c cc0_stg3_0 ((dats m 0 c).before (3 : Fin 6) t₀ d))
    ∗ (∃ d, stg c cc0_stg4_0 ((dats m 0 c).before (4 : Fin 6) t₀ d)) ∗ (∃ d, stg c cc0_stg5_0 ((dats m 0 c).before (5 : Fin 6) t₀ d)))

/-- What it takes back. -/
def bodyPost' (c : Dev nD) : sProp 𝕄 :=
  iprop(Φ₁ (F := F) c ∗ (dats m 0 c).owesAt () t₀.succ
    ∗ stg c cc0_stg0_0 (inX m c) ∗ stg c cc0_stg1_0 (inR m c) ∗ stg c cc0_stg2_0 (inI m c) ∗ stg c cc0_stg3_0 (inW m c)
    ∗ stg c cc0_stg4_0 (inS m c) ∗ stg c cc0_stg5_0 (outAt m c))

/-- An input that is fetched at the point is found as its array's block. -/
theorem before_fetched (c : Dev nD) (w : Fin cfg0.W) (hf : (cfg0.win w).fetch t₀ = true) (d) :
    (dats m 0 c).before w t₀ d = (dats m 0 c).fetched w t₀ d := by unfold Dat.before; rw [if_pos hf]

omit [FloatOps F] in
/-- A staging buffer at contents that are `X` is a points-to at `X`. -/
theorem stg_pts (c : Dev nD) (b : Ref sig .tc) {Y X : b.ty.Contents (Elt F)} (h : Y = X) :
    stg c b Y ⊢ ((((c : Thread nD τ).loc b) ↦{fullShare} X : sProp 𝕄)) := by
  subst h; iintro ⟨%f, %hf, H⟩; subst hf; iexact H
omit [FloatOps F] in
theorem pts_stg (c : Dev nD) (b : Ref sig .tc) (X : b.ty.Contents (Elt F)) :
    (((c : Thread nD τ).loc b) ↦{fullShare} X : sProp 𝕄) ⊢ stg c b X := by
  iintro H; iexists X; isplitr; · (ipureintro; rfl)
  iexact H

/-- The pipeline's obligation for the body, on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) cc0_scratch1 cc0_scratch2) (fun _ => bodyPost' m c)
  unfold bodyPre' Φ₀ start
  iintro ⟨⟨⟨⟨%K, HR⟩, Hlev, HB, HK⟩, Hbuf⟩, Ho, ⟨%d0, Hx⟩, ⟨%d1, Hr⟩, ⟨%d2, Hi⟩, ⟨%d3, Hw⟩, ⟨%d4, Hs⟩, ⟨%d5, Hout⟩⟩
  iapply (sound_body m K c fun _ => bodyPost' m c)
  isplitr []
  · unfold bodyPre Dat.owesAt Pipeline.owesWithin
    isplitl [HR]; · iexact HR
    isplitl [Hlev]; · iexact Hlev
    isplitl [HB]; · iexact HB
    isplitl [HK]; · iexact HK
    isplitl [Hbuf]; · iexact Hbuf
    isplitl [Ho]
    · icases Ho with ⟨%W, %hW, HO⟩
      iexists W; iexact HO
    isplitl [Hx]; · iapply (stg_pts c cc0_stg0_0 (before_fetched m c 0 (fetch0_0 t₀) d0)); iexact Hx
    isplitl [Hr]; · iapply (stg_pts c cc0_stg1_0 (before_fetched m c 1 (fetch0_1 t₀) d1)); iexact Hr
    isplitl [Hi]; · iapply (stg_pts c cc0_stg2_0 (before_fetched m c 2 (fetch0_2 t₀) d2)); iexact Hi
    isplitl [Hw]; · iapply (stg_pts c cc0_stg3_0 (before_fetched m c 3 (fetch0_3 t₀) d3)); iexact Hw
    isplitl [Hs]; · iapply (stg_pts c cc0_stg4_0 (before_fetched m c 4 (fetch0_4 t₀) d4)); iexact Hs
    icases Hout with ⟨%f, %hf, Hout⟩
    iexists f; iexact Hout
  · unfold bodyPost bodyPost' Dat.owesAt Pipeline.owesWithin
    rw [show (dats m 0 c).owed t₀.succ = 0 from rfl]
    iintro ⟨HΦ, ⟨%W, HO⟩, Hx, Hr, Hi, Hw, Hs, Hout⟩
    isplitl [HΦ]; · iexact HΦ
    isplitl [HO]
    · iexists W
      isplitr; · ipureintro; exact fun _ _ => Or.inl trivial
      iexact HO
    isplitl [Hx]; · iapply (pts_stg c cc0_stg0_0); iexact Hx
    isplitl [Hr]; · iapply (pts_stg c cc0_stg1_0); iexact Hr
    isplitl [Hi]; · iapply (pts_stg c cc0_stg2_0); iexact Hi
    isplitl [Hw]; · iapply (pts_stg c cc0_stg3_0); iexact Hw
    isplitl [Hs]; · iapply (pts_stg c cc0_stg4_0); iexact Hs
    iapply (pts_stg c cc0_stg5_0); iexact Hout

end Cert.Moe

end
-- ==== Proof.Run.lean ====
/-
# 01_k — the launch on the mesh

From a memory with all counters at zero: the fifteen cells of each device are set up for all devices at once, their tokens
dealt around the ring, and the body's run on every device gives the run of `main`.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Cells and tokens -/

/-- The kernel's own scoped semaphores: the seven it sends on and the seven it receives on. -/
abbrev osem (x : Fin 7 ⊕ Fin 7) : SemLoc sig := semAt (.inr x)

theorem ownSemFacts : Pipeline.OwnSemFacts cfg0.spec osem := by decide

theorem share_full (c : Dev nD) (w : Fin cfg0.W) : (dats m 0 c).share w = fullShare := by unfold Dat.share; split <;> rfl

omit [FloatOps F] in
/-- Over the sites: the barrier, the sends and the receives. -/
theorem bigSep_sites (Φ : Site → sProp 𝕄) : bigSep Finset.univ Φ
    = iprop(Φ .bar ∗ (bigSep Finset.univ fun h : Fin 7 => Φ (.send h)) ∗ bigSep Finset.univ fun h : Fin 7 => Φ (.recv h)) := by
  rw [BI.bigSep_univ_sum, BI.bigSep_univ_sum, BI.bigSep_univ_of_subsingleton (i := ())]; rfl

/-- The cells of all devices. -/
def allCells : Finset (GSem nD τ sig) := Finset.univ.map ⟨_, cell_injective⟩

/-- A device's duties: two at its barrier, one at each of the others. -/
abbrev Duty : Type := Bool ⊕ (Fin 7 ⊕ Fin 7)
/-- The site of a duty, -/
abbrev dutySite : Duty → Site | .inl _ => .bar | .inr x => .inr x
/-- and its name there. -/
abbrev dutyName : Duty → Bool | .inl b => b | .inr _ => false
theorem duty_ext : ∀ x y : Duty, dutySite x = dutySite y → dutyName x = dutyName y → x = y := by decide

/-- A duty's token. -/
abbrev tokOf (cx : Dev nD × Duty) : GSem nD τ sig × ℕ × Bool := (cell cx.1 (dutySite cx.2), 0, dutyName cx.2)
theorem tokOf_injective : Function.Injective tokOf := by
  rintro ⟨c, x⟩ ⟨c', x'⟩ h
  obtain ⟨h1, h2⟩ := cell_eq.mp (congrArg Prod.fst h)
  have h3 : dutyName x = dutyName x' := congrArg (fun y => y.2.2) h
  exact Prod.ext h1 (duty_ext x x' h2 h3)
/-- The tokens of all devices. -/
def allToks : Finset (GSem nD τ sig × ℕ × Bool) := Finset.univ.map ⟨tokOf, tokOf_injective⟩

/-- The launch's element: the pipeline's and the protocol's. -/
def u₀ : UU := (initOf (Pipeline.cells cfgs cellOf_inj) (Pipeline.launchToks cfgs cellOf_inj), initOf allCells allToks)

/-- The tokens of `c`'s own cells. -/
def ownToks (c : Dev nD) : sProp 𝕄 :=
  iprop((dutyTok ER (cell c .bar) 0 false ∗ dutyTok ER (cell c .bar) 0 true)
    ∗ (bigSep Finset.univ fun h : Fin 7 => dutyTok ER (cell c (.send h)) 0 false) ∗ bigSep Finset.univ fun h : Fin 7 => dutyTok ER (cell c (.recv h)) 0 false)
/-- The tokens `c` pays with. -/
def payToks (c : Dev nD) : sProp 𝕄 :=
  iprop((dutyTok ER (cell (nxt c) .bar) 0 false ∗ dutyTok ER (cell (prv c) .bar) 0 true)
    ∗ (bigSep Finset.univ fun h : Fin 7 => dutyTok ER (cell c (.send h)) 0 false) ∗ bigSep Finset.univ fun h : Fin 7 => dutyTok ER (cell (nxt c) (.recv h)) 0 false)

/-- What the launch's element deals to `c`. -/
def G (c : Dev nD) : sProp 𝕄 :=
  iprop((bigSep Finset.univ fun s : Site => roundState ER (sched m) (cell c s) 0) ∗ (bigSep Finset.univ fun s : Site => atPos ER (cell c s) 0 ∅ 0)
    ∗ (bigSep Finset.univ fun s : Site => reached ER (cell c s) 0) ∗ ownToks c)
/-- What `c` has of it once all cells are set up. -/
def G' (c : Dev nD) : sProp 𝕄 :=
  iprop((∃ K, records m K) ∗ (bigSep Finset.univ fun s : Site => atPos ER (cell c s) 0 ∅ 0) ∗ payToks c)

omit [FloatOps F] in
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun s : Site => Φ (cell c s) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    have hb : (bigSep Finset.univ fun b : Bool => (dutyTok ER (cell c .bar) 0 b : sProp 𝕄))
        = iprop(dutyTok ER (cell c .bar) 0 false ∗ dutyTok ER (cell c .bar) 0 true) := by
      rw [bigSep_univ_eq_bigSepL [false, true] (by decide) (by decide), bigSepL_cons_cons, bigSepL_singleton]; rfl
    rw [BI.bigSep_univ_sum, BI.bigSep_univ_sum]
    exact congrArg (fun P : sProp 𝕄 => iprop(P ∗ _)) hb
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem unscoped_eq (c : Dev nD) : (unscopedSems0 c : sProp 𝕄) = semVal (cell c .bar) 0 := by
  unfold unscopedSems0; rw [bigSep_eq_bigSepL_of_eq [SemLoc.reg barS] (by decide) (by decide)]; rfl
omit [FloatOps F] in
theorem own_eq (c : Dev nD) : (Pipeline.ownSems0 (Ix := Unit) (Name := ℕ) (U := UU) (Lvl := ℕ) (Val := Elt F) (τ := τ) osem c : sProp 𝕄)
    = iprop((bigSep Finset.univ fun h : Fin 7 => semVal (cell c (.send h)) 0) ∗ bigSep Finset.univ fun h : Fin 7 => semVal (cell c (.recv h)) 0) := by
  unfold Pipeline.ownSems0; rw [BI.bigSep_univ_sum]; rfl

omit [FloatOps F] in
/-- One device's counters at zero and its cells' states become its cells' invariants. -/
theorem set_up (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : Site => iprop(∃ κ : ℕ, cellInv ER (sched m) κ (cell c s)))
          ∗ (bigSep Finset.univ fun s : Site => atPos ER (cell c s) 0 ∅ 0) ∗ (bigSep Finset.univ fun s : Site => reached ER (cell c s) 0) ∗ ownToks c) := by
  have hinv : iprop((bigSep Finset.univ fun s : Site => semVal (cell c s) 0) ∗ bigSep Finset.univ fun s : Site => roundState ER (sched m) (cell c s) 0)
      ⊢ (|={Set.univ}=> bigSep Finset.univ fun s : Site => iprop(∃ κ : ℕ, cellInv ER (sched m) κ (cell c s)) : sProp 𝕄) := by
    rw [← bigSep_sep']
    exact (bigSep_mono fun s _ => (Rounds.body_intro ER (sched m) (cell c s)).trans inv_alloc).trans (bigSep_fupd _ _)
  rw [own_eq, unscoped_eq]
  unfold G
  iintro ⟨⟨Hs, Hv⟩, Hb, Hst, Hrest⟩
  imod hinv $$ [Hs Hv Hb Hst] with Hinv
  · isplitr [Hst]
    · iapply (Entails.of_eq (bigSep_sites (F := F) fun s => semVal (cell c s) 0).symm)
      isplitl [Hb]; · iexact Hb
      isplitl [Hs]; · iexact Hs
      iexact Hv
    · iexact Hst
  imodintro
  isplitl [Hinv]; · iexact Hinv
  iexact Hrest

omit [FloatOps F] in
/-- The tokens of the devices' own cells, dealt to those who pay with them. -/
theorem deal : (bigSep Finset.univ fun c : Dev nD => (ownToks c : sProp 𝕄)) ⊢ bigSep Finset.univ fun c : Dev nD => payToks c := by
  unfold ownToks payToks
  simp only [bigSep_sep']
  refine BI.Laws.sep_mono (BI.Laws.sep_mono (Entails.of_eq (BI.bigSep_univ_equiv ring _)) (Entails.of_eq (BI.bigSep_univ_equiv ring.symm _)))
    (BI.Laws.sep_mono (Entails.refl _) (Entails.of_eq (BI.bigSep_univ_equiv ring _)))

omit [FloatOps F] in
/-- The invariants' names chosen for all devices at once, and everything dealt out. -/
theorem hand_out :
    (bigSep Finset.univ fun c : Dev nD => iprop((bigSep Finset.univ fun s : Site => iprop(∃ κ : ℕ, cellInv ER (sched m) κ (cell c s)))
          ∗ (bigSep Finset.univ fun s : Site => atPos ER (cell c s) 0 ∅ 0) ∗ (bigSep Finset.univ fun s : Site => reached ER (cell c s) 0) ∗ ownToks c) : sProp 𝕄)
      ⊢ bigSep Finset.univ (G' m) := by
  have hout (K : Dev nD × Site → ℕ) (c : Dev nD) : iprop(records m K ∗ (bigSep Finset.univ fun s : Site => atPos ER (cell c s) 0 ∅ 0) ∗ payToks c) ⊢ G' m c := by
    unfold G'
    iintro ⟨HR, H⟩
    isplitl [HR]; · iexists K; iexact HR
    iexact H
  rw [bigSep_sep', bigSep_sep', bigSep_sep', ← bigSep_univ_prod (fun cs : Dev nD × Site => iprop(∃ κ : ℕ, cellInv ER (sched m) κ (cell cs.1 cs.2))),
    ← bigSep_univ_prod (fun cs : Dev nD × Site => (reached ER (cell cs.1 cs.2) 0 : sProp 𝕄))]
  iintro ⟨HI, Hat, #Hr, Htok⟩
  ihave HK := (BI.bigSep_exists_pi Finset.univ (fun (cs : Dev nD × Site) (κ : ℕ) => (cellInv ER (sched m) κ (cell cs.1 cs.2) : sProp 𝕄))) $$ HI
  icases HK with ⟨%K, #HI⟩
  ihave Htk := (deal (F := F)) $$ Htok
  iapply (bigSep_with_persistent (R := records m K) fun c _ => hout K c)
  isplitr
  · unfold records; isplitl; · iexact HI
    iexact Hr
  · rw [bigSep_sep']
    isplitl [Hat]; · iexact Hat
    iexact Htk

omit [FloatOps F] in
/-- The step from all devices' counters at zero. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => set_up m c).trans (bigSep_fupd _ _)).trans (BI.fupd_mono (hand_out m))

/-! ## The credit at launch -/

omit [FloatOps F] in
theorem owedFrom_bar (d c : Dev nD) (k : ℕ) : owedFrom d k (cell c .bar) () = 0 := by
  by_contra h
  obtain ⟨i, -, hi⟩ := owedFrom_pos (Nat.pos_of_ne_zero h)
  exact absurd (cell_eq.mp hi).2 (by simp)
omit [FloatOps F] in
theorem owedFrom_recv (d c : Dev nD) (h : Fin 7) : owedFrom d 0 (cell c (.recv h)) () = if c = nxt d then N else 0 := by
  unfold owedFrom
  rw [Finset.sum_apply, Finsupp.finset_sum_apply, Finset.sum_eq_single_of_mem h (by simp) fun h' _ hne => by
    rw [tallyAt_apply, if_neg fun e => hne (by simpa using (cell_eq.mp e.1).2.symm)], tallyAt_apply]
  by_cases e : c = nxt d
  · rw [if_pos e, if_pos ⟨by rw [e], rfl⟩]
  · rw [if_neg e, if_neg fun e' => e (cell_eq.mp e'.1).1]

omit [FloatOps F] in
/-- All that is owed to a device's barrier: two units. -/
theorem owed_bar (c : Dev nD) : ∑ d : Dev nD, owed₀ d (cell c .bar) () = 2 := by
  have h (d : Dev nD) : owed₀ d (cell c .bar) () = (if c = nxt d then 1 else 0) + if c = prv d then 1 else 0 := by
    unfold owed₀ owed₁
    rw [Pi.add_apply, Finsupp.add_apply, Pi.add_apply, Finsupp.add_apply, tallyAt_apply, tallyAt_apply, owedFrom_bar, Nat.zero_add]
    simp only [cell_eq, and_true]
  rw [Finset.sum_congr rfl fun d _ => h d]
  clear h; revert c; decide
omit [FloatOps F] in
/-- All that is owed to one of its receive cells: one share. -/
theorem owed_recv (c : Dev nD) (h : Fin 7) : ∑ d : Dev nD, owed₀ d (cell c (.recv h)) () = N := by
  have h (d : Dev nD) : owed₀ d (cell c (.recv h)) () = if d = prv c then N else 0 := by
    unfold owed₀ owed₁
    rw [Pi.add_apply, Finsupp.add_apply, Pi.add_apply, Finsupp.add_apply, tallyAt_apply, tallyAt_apply, owedFrom_recv,
      if_neg (c := cell c (.recv h) = cell (nxt d) .bar ∧ () = ()) fun e => absurd (cell_eq.mp e.1).2 (by simp),
      if_neg (c := cell c (.recv h) = cell (prv d) .bar ∧ () = ()) fun e => absurd (cell_eq.mp e.1).2 (by simp), Nat.add_zero]
    exact if_congr (by revert c d; decide) rfl rfl
  rw [Finset.sum_congr rfl fun d _ => h d, Finset.sum_ite_eq' Finset.univ (prv c) fun _ => N, if_pos (Finset.mem_univ _)]

omit [FloatOps F] in
theorem credit_at (g : GSem nD τ sig) (n : ℕ) (h : ∑ d : Dev nD, owed₀ d g () = n) :
    tallyOn g (launchCredit (Pipeline.owing owed₀) 0 g) = (tallyAt g () n : CellTallies nD τ sig Unit) := by
  unfold tallyAt
  refine congrArg _ (Finsupp.ext fun u => ?_); cases u
  rw [Pipeline.launchCredit_owing, Finsupp.single_eq_same, h]

omit [FloatOps F] in
/-- What a device may draw on at launch: its barrier's two units and the seven shares it is to receive. -/
theorem creds (c : Dev nD) :
    (Pipeline.launchCred owed₀ c : sProp 𝕄)
      ⊢ iprop(cred (tallyAt (cell c .bar) () 2) ∗ bigSep Finset.univ fun h : Fin 7 => cred (tallyAt (cell c (.recv h)) () N)) := by
  have hs (Φ : SemLoc sig → sProp 𝕄) : bigSep Finset.univ Φ ⊢ bigSep Finset.univ fun s : Site => Φ (semAt s) :=
    (bigSep_subset (Finset.subset_univ (Finset.univ.map ⟨semAt, semAt_injective⟩))).trans (Entails.of_eq (bigSep_map _))
  unfold Pipeline.launchCred
  refine (hs _).trans ?_
  rw [bigSep_sites]
  iintro ⟨Hb, -, Hr⟩
  isplitl [Hb]
  · iapply (Entails.of_eq (congrArg cred (credit_at (cell c .bar) 2 (owed_bar c)))); iexact Hb
  · iapply (Entails.of_eq (bigSep_congr (s := Finset.univ) fun (h : Fin 7) _ => congrArg (cred : _ → sProp 𝕄) (credit_at (cell c (.recv h)) N (owed_recv c h))))
    iexact Hr

/-! ## The theorem's side conditions -/

variable (ρ : Dev nD → PrngReg)

omit [FloatOps F] in
theorem start_of (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  unfold G' payToks
  rw [bigSep_sites]
  iintro ⟨-, Hlev, Hcr, -, HR, ⟨HaB, HaS, HaV⟩, ⟨HtN, HtP⟩, HtS, HtV⟩
  ihave Hc := (creds (F := F) c) $$ Hcr
  icases Hc with ⟨HcB, HcV⟩
  imodintro
  isplitl
  · unfold start barKit hopKit
    simp only [bigSep_sep']
    isplitl [HR]; · iexact HR
    isplitl [Hlev]; · iexact Hlev
    isplitl [HaB HtP HtN HcB]
    · isplitl [HaB]; · iexact HaB
      isplitl [HtP]; · iexact HtP
      isplitl [HtN]; · iexact HtN
      iexact HcB
    isplitl [HaS]; · iexact HaS
    isplitl [HaV]; · iexact HaV
    isplitl [HtS]; · iexact HtS
    isplitl [HtV]; · iexact HtV
    iexact HcV
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hb⟩
  isplitl [Hs] <;> iassumption

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, own_eq, unscoped_eq]
  unfold Φ₁
  rw [bigSep_sep']
  iintro ⟨Hb, HzB, Hz⟩
  isplitl [HzB]; · iexact HzB
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The memory `m` with every counter at zero. -/
def s₀ : MemSt nD τ sig (Elt F) := ⟨m, fun _ => 0, ρ⟩

/-- What is left in the array of window `w` on device `c`. -/
def finalA (c : Dev nD) (w : Fin cfg0.W) : Buf (Elt F) ((cfg0.win w).arr.view.loc (c : Thread nD τ)) := (dats m 0 c).arrAt w cfg0.N

/-- Every window's array is as the proof data say. -/
def QC : PUnit × MemSt nD τ sig (Elt F) → Prop := fun r =>
  ∀ c : Dev nD, ∀ w : Fin cfg0.W, r.2.mem ((cfg0.win w).arr.view.loc (c : Thread nD τ)) = finalA m c w

/-- Every fair run of `main` on the eight devices from zero counters ends, with the arrays as the proof data say and every
    counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_of m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
# 01_k — the frames

What the run on the mesh leaves in the argument arrays, and the three frame claims.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Moe

open Cert.KernelIdeal Cert.KernelIdeal.Gen
open Idealize.ShloMosaic Idealize.ShloMosaic.TcCoe Idealize.SL.Sem

variable {F : FTy → Type} [FloatOps F]

/-- The kernel's arguments on device `c` are in `r` as they were in `m`. -/
def kept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- Where every window's array is as the proof data say, the arguments are as they were. -/
theorem kept_of (m : (ℓ : Loc nD τ sig) → Buf (Elt F) ℓ) (r : PUnit × MemSt nD τ sig (Elt F)) (h : QC m r) (c : Dev nD) : kept m r c :=
  ⟨(h c 0).trans ((dats m 0 c).arrAt_in (0 : Fin 6) rfl _), (h c 1).trans ((dats m 0 c).arrAt_in (1 : Fin 6) rfl _),
    (h c 2).trans ((dats m 0 c).arrAt_in (2 : Fin 6) rfl _), (h c 3).trans ((dats m 0 c).arrAt_in (3 : Fin 6) rfl _),
    (h c 4).trans ((dats m 0 c).arrAt_in (4 : Fin 6) rfl _)⟩

/-- The run leaves the arguments as they were and every counter at zero, for any float values. -/
theorem run_kept (m : (ℓ : Loc nD τ sig) → Buf (Elt F) ℓ) (ρ : Dev nD → PrngReg) :
    θ_run defs (onTc (τ := τ) (main (F := F))) ⟨m, fun _ => 0, ρ⟩ (fun r => (∀ c, kept m r c) ∧ r.2.sem = fun _ => 0) :=
  (θ_run defs _ _).mono (fun r h => ⟨kept_of m r h.1, h.2⟩) (run_main m ρ)

/-- The frame of the kernel at the ideal instance. -/
theorem frame_kernelIdeal : Cert.quiescent_KernelIdeal := fun m ρ _ => run_kept (F := Ideal) m ρ

/-- The kernels' body table of the compiled program is that of the ideal one: their one label runs the same text. -/
theorem bodies_eq : (Cert.Kernel.defs₀ (F := Bits)) = Cert.KernelIdeal.defs₀ (F := Bits) := by
  unfold Cert.Kernel.defs₀ Cert.KernelIdeal.defs₀
  refine congrArg Defs.onTc (funext fun ℓ => ?_)
  match ℓ with
  | 0 => rfl

/-- So are the tables with the pipelines in them. -/
theorem tables_eq : (Cert.Kernel.defs (F := Bits)) = Cert.KernelIdeal.defs (F := Bits) :=
  congrArg (Pipeline.defs (Cert.KernelIdeal.pcfgs (F := Bits))) bodies_eq

/-- The frame of the kernel as it is compiled: the two programs have the same text. -/
theorem frame_kernel : Cert.quiescent_Kernel := fun m ρ _ => by
  have h := run_kept (F := Bits) m ρ
  rw [← tables_eq] at h
  exact h

/-- The frame of the reference, which declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Gain.lean ====
/-
# 01_k — one share's part of the kernel's result

Every step of the kernel adds the same thing: what the two experts of one share give the tokens routed to them.
-/
module

public import proofs.«01_k».proof.Proof.Value

@[expose] public section

set_option maxRecDepth 16384

noncomputable section

namespace Cert.Moe

open Cert.KernelIdeal Cert.KernelIdeal.Gen

open Idealize.ShloMosaic
open Idealize.ShloMosaic.TcCoe

variable {F : FTy → Type} [FloatOps F]

section Gain

variable (v14 : FVec F S256x128 .f32) (v28 : IVec S256x1 32) (v35 : FVec F S256x1 .f32)

/-- The tokens, each scaled by its probability if it is routed to expert `e` and by zero if it isn't. -/
def scaled (e : BitVec 32) : FVec F S256x128 .f32 :=
  mulf v14 (broadcastTo S256x128
    (select (cmpi .eq v28 (broadcast S256x1 e)) v35 (broadcast S256x1 (Scalar.ofBits .f32 0x00000000#32))) broadcasts_S256x1_S256x128)

/-- The product of the scaled tokens with the weights `Y` of expert `e`. -/
def expert (e : BitVec 32) (Y : FVec F S128x256 .f32) : FVec F S256x256 .f32 :=
  matmul dot_S256x128_S128x256_S256x256_1_0_0_1_n_n none (scaled v14 v28 v35 e) Y (constant S256x256 .f32 0x00000000#32)

/-- The weights of a share's first expert, -/
def first (X : FVec F S2x128x256 .f32) : FVec F S128x256 .f32 :=
  shapeCast S128x256 (extractStridedSlice S1x128x256 ![0, 0, 0] (k0_pay9 (k0_pay8 X)) slices_S2x128x256_o0_0_0_S1x128x256) shapeCasts_S1x128x256_S128x256

/-- and of its second. -/
def second (X : FVec F S2x128x256 .f32) : FVec F S128x256 .f32 :=
  shapeCast S128x256 (extractStridedSlice S1x128x256 ![1, 0, 0] (k0_pay9 (k0_pay8 X)) slices_S2x128x256_o1_0_0_S1x128x256) shapeCasts_S1x128x256_S128x256

/-- What the share `X` of the device numbered `o` adds to the result. -/
def gain (X : FVec F S2x128x256 .f32) (o : BitVec 32) : FVec F S256x256 .f32 :=
  addf (addf (broadcast S256x256 (Scalar.ofBits .f32 0x00000000#32)) (expert v14 v28 v35 (Scalar.addi (Scalar.muli 2#32 o) 0#32) (first X)))
    (expert v14 v28 v35 (Scalar.addi (Scalar.muli 2#32 o) 1#32) (second X))

variable (v2 : BitVec 32) (a : FVec F S256x256 .f32) (X : FVec F S2x128x256 .f32)

/-- Each step adds its share's gain. -/
theorem stepOwn_eq (v26 : FVec F S256x16 .f32) (v31 : IVec S256x16 1) (sW : FVec F S128x256 .f32) :
    stepOwn v2 v14 v28 X v26 v31 sW = addf (k0_pay7 v14 sW) (gain v14 v28 (k0_pay6 v26 v31) X v2) := rfl
theorem step0_eq : step0 v2 v14 v28 v35 a X = addf a (gain v14 v28 v35 X (orgw v2 0#32)) := rfl
theorem step1_eq : step1 v2 v14 v28 v35 a X = addf a (gain v14 v28 v35 X (orgw v2 1#32)) := rfl
theorem step2_eq : step2 v2 v14 v28 v35 a X = addf a (gain v14 v28 v35 X (orgw v2 2#32)) := rfl
theorem step3_eq : step3 v2 v14 v28 v35 a X = addf a (gain v14 v28 v35 X (orgw v2 3#32)) := rfl
theorem step4_eq : step4 v2 v14 v28 v35 a X = addf a (gain v14 v28 v35 X (orgw v2 4#32)) := rfl
theorem step5_eq : step5 v2 v14 v28 v35 a X = addf a (gain v14 v28 v35 X (orgw v2 5#32)) := rfl
theorem step6_eq : step6 v2 v14 v28 v35 a X = addf a (gain v14 v28 v35 X (orgw v2 6#32)) := rfl

end Gain

end Cert.Moe

end
-- ==== Proof.Softmax.lean ====
/-
# 01_k — the mathematics of one token

A token's scores, its probabilities, and its result, over the extended reals. Where the scores are finite a probability is a
real number that isn't negative, and such a number may be taken out of a sum.
-/
module

public import Idealize.ShloMosaic.PureOps.Ideal

@[expose] public section

noncomputable section

namespace Cert.Moe

open Idealize.ShloMosaic

/-- The score of a token `x` for each expert. -/
def score (x : Fin 128 → EReal) (R : Fin 128 → Fin 16 → EReal) (e : Fin 16) : EReal := ∑ d, x d * R d e

/-- The greatest of the scores. -/
def top (s : Fin 16 → EReal) : EReal := Finset.univ.fold max ⊥ s

/-- The probability of expert `e`: the softmax of the scores. -/
def prob (s : Fin 16 → EReal) (e : Fin 16) : EReal :=
  Ideal.div (Ideal.exp (s e - top s)) (∑ k, Ideal.exp (s k - top s))

/-- The result of a token whose expert is `ri`, at the column where the shared weights are `S` and the experts' are `W`: the
    shared product, and the product with the weights of its expert, scaled by that expert's probability `p`. A token whose
    expert is none of the sixteen has the shared product only. -/
def token (x : Fin 128 → EReal) (p : Fin 16 → EReal) (ri : BitVec 32) (W : Fin 16 → Fin 128 → EReal) (S : Fin 128 → EReal) : EReal :=
  (∑ d, x d * S d) + ∑ e : Fin 16, if ri = BitVec.ofNat 32 e.val then p e * ∑ d, x d * W e d else 0

/-- A finite value. -/
def Finite (a : EReal) : Prop := ∃ r : ℝ, a = (r : EReal)

theorem Finite.mul {a b : EReal} (ha : Finite a) (hb : Finite b) : Finite (a * b) := by
  obtain ⟨r, rfl⟩ := ha; obtain ⟨s, rfl⟩ := hb
  exact ⟨r * s, (EReal.coe_mul r s).symm⟩

theorem Finite.add {a b : EReal} (ha : Finite a) (hb : Finite b) : Finite (a + b) := by
  obtain ⟨r, rfl⟩ := ha; obtain ⟨s, rfl⟩ := hb
  exact ⟨r + s, (EReal.coe_add r s).symm⟩

theorem Finite.sum {ι : Type} (s : Finset ι) {f : ι → EReal} (h : ∀ i ∈ s, Finite (f i)) : Finite (∑ i ∈ s, f i) :=
  Finset.sum_induction f Finite (fun _ _ => Finite.add) ⟨0, rfl⟩ h

/-- A value whose magnitude is below infinity is finite. -/
theorem finite_of_abs_lt {a : EReal} (h : max a (-a) < ⊤) : Finite a := by
  induction a with
  | bot => simp at h
  | top => simp at h
  | coe r => exact ⟨r, rfl⟩

/-- A product of finite values summed up is finite: so are a token's scores. -/
theorem score_finite {x : Fin 128 → EReal} {R : Fin 128 → Fin 16 → EReal} (hx : ∀ d, Finite (x d)) (hR : ∀ d e, Finite (R d e))
    (e : Fin 16) : Finite (score x R e) := Finite.sum _ fun d _ => (hx d).mul (hR d e)

/-- The greatest score is one of them. -/
theorem top_eq (s : Fin 16 → EReal) : ∃ i, top s = s i := by
  obtain ⟨i, -, h⟩ := Finset.exists_mem_eq_sup (Finset.univ : Finset (Fin 16)) Finset.univ_nonempty s
  exact ⟨i, h⟩

/-- A probability of finite scores is a real number, and isn't negative. -/
theorem prob_real {s : Fin 16 → EReal} (h : ∀ e, Finite (s e)) (e : Fin 16) : 0 ≤ prob s e ∧ prob s e ≠ ⊤ := by
  obtain ⟨i, hi⟩ := top_eq s
  choose r hr using h
  have he : ∀ k, Ideal.exp (s k - top s) = ((Real.exp (r k - r i) : ℝ) : EReal) := fun k => by
    rw [hi, hr k, hr i, ← EReal.coe_sub]; rfl
  have hs : (∑ k, Ideal.exp (s k - top s)) = ((∑ k, Real.exp (r k - r i) : ℝ) : EReal) := by
    simp only [he]
    exact (map_sum (⟨⟨(Real.toEReal), rfl⟩, EReal.coe_add⟩ : ℝ →+ EReal) _ _).symm
  have hpos : 0 < ∑ k, Real.exp (r k - r i) := Finset.sum_pos (fun k _ => Real.exp_pos _) Finset.univ_nonempty
  have hp : prob s e = ((Real.exp (r e - r i) * (∑ k, Real.exp (r k - r i))⁻¹ : ℝ) : EReal) := by
    unfold prob
    rw [hs, he, Ideal.div, if_neg (by exact_mod_cast hpos.ne'), ← EReal.coe_inv, ← EReal.coe_mul]
  rw [hp]
  exact ⟨by exact_mod_cast (mul_nonneg (Real.exp_pos _).le (inv_nonneg.2 hpos.le)), EReal.coe_ne_top _⟩

/-- A real number that isn't negative may be taken out of a sum. -/
theorem mul_sum_of_real {ι : Type} (s : Finset ι) {p : EReal} (h0 : 0 ≤ p) (ht : p ≠ ⊤) (f : ι → EReal) :
    p * ∑ i ∈ s, f i = ∑ i ∈ s, p * f i := by
  classical
  induction s using Finset.induction_on with
  | empty => simp
  | insert a s ha ih => rw [Finset.sum_insert ha, Finset.sum_insert ha, EReal.left_distrib_of_nonneg_of_ne_top h0 ht, ih]

end Cert.Moe

end
-- ==== Proof.KernelValue.lean ====
/-
# 01_k — the kernel's result, read at an index

At row `i` and column `j` the kernel's result is the shared product plus, for each of the eight shares, the gain of its two
experts. Every device's share comes by once, whichever device the sum is taken on, so the sum is over all sixteen experts.
-/
module

public import proofs.«01_k».proof.Proof.Gain
public import proofs.«01_k».proof.Proof.Softmax
public import Idealize.ShloMosaic.Lib.Pointwise
public import Idealize.ShloMosaic.Lib.Pipeline.ValueKit.Acc

@[expose] public section

set_option maxRecDepth 16384

noncomputable section

namespace Cert.Moe

open Cert.KernelIdeal Cert.KernelIdeal.Gen

open Idealize.ShloMosaic
open Idealize.ShloMosaic.TcCoe

/-! ## The pieces -/

/-- A choice by the equality of two words. -/
theorem choose_eq {α : Type} (a b : BitVec 32) (x y : α) : Scalar.select (IntOp.cmpi .eq a b) x y = if a = b then x else y := by
  unfold Scalar.select IntOp.cmpi
  by_cases h : a = b
  · simp [h]
  · have hb : (a == b) = false := beq_eq_false_iff_ne.2 h
    simp [h, hb]

/-- The pattern of minus infinity. -/
theorem negInf : Ideal.ofBits .f32 0xFF800000#32 = ⊥ := by simp [Ideal.ofBits, Ideal.ieee]

theorem first_apply (X : FVec Ideal S2x128x256 .f32) (d : Fin 128) (j : Fin 256) : first X (ix2 d j) = X (ix3 0 d j) := by
  unfold first k0_pay9 k0_pay8
  pointwise

theorem second_apply (X : FVec Ideal S2x128x256 .f32) (d : Fin 128) (j : Fin 256) : second X (ix2 d j) = X (ix3 1 d j) := by
  unfold second k0_pay9 k0_pay8
  pointwise

/-- What expert `e` with weights `Y` gives row `i`: nothing unless the row goes to it. -/
theorem expert_apply (v14 : FVec Ideal S256x128 .f32) (v28 : IVec S256x1 32) (v35 : FVec Ideal S256x1 .f32) (e : BitVec 32)
    (Y : FVec Ideal S128x256 .f32) (i j : Fin 256) :
    expert v14 v28 v35 e Y (ix2 i j) = if v28 (ix2 i 0) = e then ∑ d : Fin 128, v14 (ix2 i d) * v35 (ix2 i 0) * Y (ix2 d j) else 0 := by
  unfold expert scaled
  pointwise
  simp only [choose_eq]
  split_ifs
  · rfl
  · simp

/-- The probabilities the kernel computes are the softmax of the row's scores. -/
theorem probs_apply (x : FVec Ideal S256x128 .f32) (rW : FVec Ideal S128x16 .f32) (i : Fin 256) (e : Fin 16) :
    k0_pay3 (F := Ideal) x rW (ix2 i e) = prob (score (fun d => x (ix2 i d)) fun d k => rW (ix2 d k)) e := by
  unfold k0_pay3 k0_pay2
  pointwise
  rw [negInf]
  rfl

/-- The probability the kernel selects is that of the row's expert. -/
theorem sel_apply (v : FVec Ideal S256x16 .f32) (ri : IVec S256x1 32) (i : Fin 256) :
    k0_pay6 v (k0_pay5 (F := Ideal) ri) (ix2 i 0) = ∑ e : Fin 16, if ri (ix2 i 0) = BitVec.ofNat 32 e.val then v (ix2 i e) else 0 := by
  unfold k0_pay6 k0_pay5 k0_pay4
  pointwise
  simp only [choose_eq]

theorem shared_apply (x : FVec Ideal S256x128 .f32) (w : FVec Ideal S128x256 .f32) (i j : Fin 256) :
    k0_pay7 (k0_pay2 x) w (ix2 i j) = ∑ d : Fin 128, x (ix2 i d) * w (ix2 d j) := by
  unfold k0_pay7 k0_pay2
  pointwise

/-- Two experts' words are equal only if the experts are. -/
theorem word_inj {e e' : Fin 16} (h : BitVec.ofNat 32 e.val = BitVec.ofNat 32 e'.val) : e = e' := by
  revert e e'; decide

/-! ## A share's gain -/

/-- What expert `e` gives a row that goes to `ri`. -/
def part (x : Fin 128 → EReal) (p : Fin 16 → EReal) (ri : BitVec 32) (W : Fin 16 → Fin 128 → EReal) (e : Fin 16) : EReal :=
  if ri = BitVec.ofNat 32 e.val then p e * ∑ d, x d * W e d else 0

/-- Scaling the tokens by the selected probability scales the product. -/
theorem part_eq (x : Fin 128 → EReal) {p : Fin 16 → EReal} (hp : ∀ e, 0 ≤ p e ∧ p e ≠ ⊤) (ri : BitVec 32) (W : Fin 16 → Fin 128 → EReal)
    (e : Fin 16) :
    (if ri = BitVec.ofNat 32 e.val then ∑ d, x d * (∑ k : Fin 16, if ri = BitVec.ofNat 32 k.val then p k else 0) * W e d else 0)
      = part x p ri W e := by
  unfold part
  split_ifs with h
  · have hs : (∑ k : Fin 16, if ri = BitVec.ofNat 32 k.val then p k else 0) = p e := by
      rw [Finset.sum_eq_single e]
      · rw [if_pos h]
      · exact fun k _ hk => if_neg fun hk' => hk (word_inj (hk'.symm.trans h))
      · exact fun hn => absurd (Finset.mem_univ e) hn
    rw [hs, mul_sum_of_real _ (hp e).1 (hp e).2]
    exact Finset.sum_congr rfl fun d _ => by rw [mul_comm (x d) (p e), mul_assoc]
  · rfl

/-- The number of an expert of device `o`. -/
def exn (o : Fin 8) (k : Fin 2) : Fin 16 := ⟨o.val * 2 + k.val, by omega⟩

theorem exn_zero (o : Fin 8) : Scalar.addi (Scalar.muli 2#32 (BitVec.ofNat 32 o.val)) 0#32 = BitVec.ofNat 32 (exn o 0).val := by
  revert o; decide
theorem exn_one (o : Fin 8) : Scalar.addi (Scalar.muli 2#32 (BitVec.ofNat 32 o.val)) 1#32 = BitVec.ofNat 32 (exn o 1).val := by
  revert o; decide

section Row

variable (x : FVec Ideal S256x128 .f32) (rW : FVec Ideal S128x16 .f32) (ri : IVec S256x1 32) (sW : FVec Ideal S128x256 .f32)
variable (shares : Fin 8 → FVec Ideal S2x128x256 .f32) (W : Fin 16 → Fin 128 → Fin 256 → EReal)

/-- A row's probabilities. -/
abbrev rowProb (i : Fin 256) : Fin 16 → EReal := prob (score (fun d => x (ix2 i d)) fun d k => rW (ix2 d k))

/-- The gain of device `o`'s share at row `i` and column `j`: those of its two experts. -/
theorem gain_apply (hW : ∀ o k d j, shares o (ix3 k d j) = W (exn o k) d j) (i j : Fin 256)
    (hp : ∀ e, 0 ≤ rowProb x rW i e ∧ rowProb x rW i e ≠ ⊤) (o : Fin 8) :
    gain (k0_pay2 x) (k0_pay4 (F := Ideal) ri) (k0_pay6 (k0_pay3 x rW) (k0_pay5 (F := Ideal) ri)) (shares o) (BitVec.ofNat 32 o.val) (ix2 i j)
      = ∑ k : Fin 2, part (fun d => x (ix2 i d)) (rowProb x rW i) (ri (ix2 i 0)) (fun e d => W e d j) (exn o k) := by
  have hx : ∀ d, k0_pay2 x (ix2 i d) = x (ix2 i d) := fun d => by unfold k0_pay2; pointwise
  have hri : k0_pay4 (F := Ideal) ri (ix2 i 0) = ri (ix2 i 0) := by unfold k0_pay4; pointwise
  unfold gain
  pointwise
  simp only [expert_apply, sel_apply, probs_apply, first_apply, second_apply, hW, hx, hri, exn_zero, exn_one]
  rw [Fin.sum_univ_two]
  exact congrArg₂ (· + ·) (part_eq (fun d => x (ix2 i d)) hp _ (fun e d => W e d j) (exn o 0))
    (part_eq (fun d => x (ix2 i d)) hp _ (fun e d => W e d j) (exn o 1))

end Row

/-! ## All eight shares -/

/-- The number of a device, and of the device its share after each hop comes from, as the kernel computes them. -/
theorem me_eq (c : Dev nD) : me c = BitVec.ofNat 32 (origin 0 c).val := by revert c; decide
theorem orgw_eq (h : Fin 7) (c : Dev nD) : orgw (me c) (BitVec.ofNat 32 h.val) = BitVec.ofNat 32 (origin h.succ c).val := by
  revert h c; decide

/-- Every device's share comes by once. -/
theorem origin_bij (c : Dev nD) : Function.Bijective fun k : Fin 8 => origin k c := by
  have h : Function.Injective fun k : Fin 8 => origin k c := by revert c; unfold Function.Injective; decide
  exact ⟨h, Finite.injective_iff_surjective.1 h⟩

section Result

variable (x : FVec Ideal S256x128 .f32) (rW : FVec Ideal S128x16 .f32) (ri : IVec S256x1 32) (sW : FVec Ideal S128x256 .f32)
variable (shares : Fin 8 → FVec Ideal S2x128x256 .f32) (W : Fin 16 → Fin 128 → Fin 256 → EReal)

/-- The kernel's result on device `c`, at row `i` and column `j`, is the row's result over all sixteen experts. -/
theorem result_apply (c : Dev nD) (hW : ∀ o k d j, shares o (ix3 k d j) = W (exn o k) d j) (i j : Fin 256)
    (hp : ∀ e, 0 ≤ rowProb x rW i e ∧ rowProb x rW i e ≠ ⊤) :
    result (me c) x rW ri (shares (origin 0 c)) (fun h => shares (origin h.succ c)) sW (ix2 i j)
      = token (fun d => x (ix2 i d)) (rowProb x rW i) (ri (ix2 i 0)) (fun e d => W e d j) (fun d => sW (ix2 d j)) := by
  have hg := gain_apply x rW ri shares W hW i j hp
  have ho := fun h : Fin 7 => orgw_eq h c
  have hs : (∑ e : Fin 16, part (fun d => x (ix2 i d)) (rowProb x rW i) (ri (ix2 i 0)) (fun e d => W e d j) e)
      = ∑ k : Fin 8, ∑ b : Fin 2, part (fun d => x (ix2 i d)) (rowProb x rW i) (ri (ix2 i 0)) (fun e d => W e d j) (exn (origin k c) b) := by
    rw [(origin_bij c).sum_comp fun o => ∑ b : Fin 2, part (fun d => x (ix2 i d)) (rowProb x rW i) (ri (ix2 i 0)) (fun e d => W e d j) (exn o b)]
    exact (Fin.sum_mul_add_fin 8 2 _).symm
  unfold token
  rw [show (∑ e : Fin 16, if ri (ix2 i 0) = BitVec.ofNat 32 e.val then rowProb x rW i e * ∑ d, x (ix2 i d) * W e d j else 0)
      = ∑ e : Fin 16, part (fun d => x (ix2 i d)) (rowProb x rW i) (ri (ix2 i 0)) (fun e d => W e d j) e from rfl, hs, Fin.sum_univ_eight]
  unfold result
  simp only [step0_eq, step1_eq, step2_eq, step3_eq, step4_eq, step5_eq, step6_eq, stepOwn_eq]
  pointwise
  rw [shared_apply, show orgw (me c) 0#32 = _ from ho 0, show orgw (me c) 1#32 = _ from ho 1, show orgw (me c) 2#32 = _ from ho 2,
    show orgw (me c) 3#32 = _ from ho 3, show orgw (me c) 4#32 = _ from ho 4, show orgw (me c) 5#32 = _ from ho 5,
    show orgw (me c) 6#32 = _ from ho 6, me_eq]
  simp only [hg, add_assoc]
  rfl

end Result

end Cert.Moe

end
-- ==== Proof.RefValue.lean ====
/-
# 01_k — the reference's result

The reference's whole term, read at an index: the row's `token` with the row's probabilities.
-/
module

public import proofs.«01_k».proof.Proof.Gen.ReferenceIdeal.Run
public import proofs.«01_k».proof.Proof.KernelValue
public import Idealize.ShloMosaic.Lib.Pointwise

@[expose] public section

set_option maxRecDepth 16384

noncomputable section

namespace Cert.Moe.Ref

open Cert.ReferenceIdeal Cert.ReferenceIdeal.Gen

open Idealize.ShloMosaic
open Idealize.ShloMosaic.TcCoe Idealize.SL.Sem

section
variable {F : FTy → Type} [FloatOps F]

/-- The scores of all tokens. -/
def scores (x : FVec F S2048x128 .f32) (R : FVec F S128x16 .f32) : FVec F S2048x16 .f32 :=
  Host.dotGeneral dot_S2048x128_S128x16_S2048x16_1_0_0_1_n_n none x R

/-- The exponentials of the scores, each less the greatest of its row. -/
def weights (s : FVec F S2048x16 .f32) : FVec F S2048x16 .f32 :=
  Host.exp (subf s (broadcastInDim S2048x16 ![0, 1] bcast_S2048x1_S2048x16_0_1 (broadcastInDim S2048x1 ![0] bcast_S2048_S2048x1_0
    (Host.reduce FloatOps.maximumf s (constant S_ .f32 0xFF800000#32) reducesTo_S2048x16_S2048_d1 h_S_))))

/-- The probabilities of all tokens. -/
def probs (s : FVec F S2048x16 .f32) : FVec F S2048x16 .f32 :=
  Host.divf (weights s) (broadcastInDim S2048x16 ![0, 1] bcast_S2048x1_S2048x16_0_1 (broadcastInDim S2048x1 ![0] bcast_S2048_S2048x1_0
    (Host.reduceAdd (weights s) (constant S_ .f32 0x00000000#32) reducesTo_S2048x16_S2048_d1 h_S_)))

end

/-- The tokens' experts, in a column. -/
def col (ri : IVec S2048x1 32) : IVec S2048x1 32 := broadcastInDim S2048x1 ![0] bcast_S2048_S2048x1_0 (shapeCast _ ri shapeCasts_S2048x1_S2048)

/-- The pairs of a token's number and its expert's. -/
def pairs (ri : IVec S2048x1 32) : IVec S2048x2 32 :=
  concatenate S2048x2 1 [⟨S2048x1, (broadcastInDim S2048x1 ![0] bcast_S2048_S2048x1_0 (iotaInDim S2048 32 0))⟩, ⟨S2048x1, col ri⟩]
    concatenates_S2048x1_S2048x1_S2048x2_d1

/-- Whether a token's pair is inside the table of probabilities. -/
def pairIn (ri : IVec S2048x1 32) : IVec S2048 1 :=
  Host.reduce IntOp.andi (andi (cmpi .sge (pairs ri) (broadcastInDim S2048x2 ![] bcast_S_S2048x2 (constantI S_ 32 0#32)))
    (cmpi .sle (pairs ri) (broadcastInDim S2048x2 ![0, 1] bcast_S1x2_S2048x2_0_1 (broadcastInDim S1x2 ![1] bcast_S2_S1x2_1 (fun i => lit0 (S2.rowMajor i))))))
    (constantI S_ 1 1#1) reducesTo_S2048x2_S2048_d1 h_S_

/-- Whether a token's expert is one of the sixteen. -/
def expertIn (ri : IVec S2048x1 32) : IVec S2048 1 :=
  Host.reduce IntOp.andi (andi (cmpi .sge (col ri) (broadcastInDim S2048x1 ![] bcast_S_S2048x1 (constantI S_ 32 0#32)))
    (cmpi .sle (col ri) (broadcastInDim S2048x1 ![0, 1] bcast_S1x1_S2048x1_0_1 (broadcastInDim S1x1 ![1] bcast_S1_S1x1_1 (constantI S1 32 15#32)))))
    (constantI S_ 1 1#1) reducesTo_S2048x1_S2048_d1 h_S_

section
variable {F : FTy → Type} [FloatOps F]

/-- Each token's probability of its expert, zero where there is no such expert. -/
def picked (P : FVec F S2048x16 .f32) (ri : IVec S2048x1 32) : FVec F S2048 .f32 :=
  select (pairIn ri) (Host.gather gather_S2048x16_S2048x2_S2048_n_01_n_n_01_1_11 P (pairs ri))
    (broadcastInDim S2048 ![] bcast_S_S2048 (constant S_ .f32 0x00000000#32))

/-- Each token's expert's weights, zero where there is no such expert. -/
def drawn (W : FVec F S16x128x256 .f32) (ri : IVec S2048x1 32) : FVec F S2048x128x256 .f32 :=
  select (broadcastInDim S2048x128x256 ![0] bcast_S2048_S2048x128x256_0 (expertIn ri))
    (Host.gather gather_S16x128x256_S2048x1_S2048x128x256_12_0_n_n_0_1_1128256 W (col ri))
    (broadcastInDim S2048x128x256 ![] bcast_S_S2048x128x256 (constant S_ .f32 0x00000000#32))

/-- The reference's result, of the probabilities picked and the weights drawn. -/
def joined (x : FVec F S2048x128 .f32) (S : FVec F S128x256 .f32) (p : FVec F S2048 .f32) (D : FVec F S2048x128x256 .f32) :
    FVec F S2048x256 .f32 :=
  addf (Host.dotGeneral dot_S2048x128_S128x256_S2048x256_1_0_0_1_n_n none x S)
    (mulf (broadcastInDim S2048x256 ![0, 1] bcast_S2048x1_S2048x256_0_1 (broadcastInDim S2048x1 ![0] bcast_S2048_S2048x1_0 p))
      (Host.dotGeneral dot_S2048x128_S2048x128x256_S2048x256_1_1_n_2_0_0 none x D))

/-- The reference's result of its five arguments. -/
def whole (x : FVec F S2048x128 .f32) (R : FVec F S128x16 .f32) (ri : IVec S2048x1 32) (W : FVec F S16x128x256 .f32)
    (S : FVec F S128x256 .f32) : FVec F S2048x256 .f32 :=
  joined x S (picked (probs (scores x R)) ri) (drawn W ri)

end

/-! ## Its parts at an index -/

/-- A row's probabilities are the softmax of its scores. -/
theorem probs_apply (x : FVec Ideal S2048x128 .f32) (R : FVec Ideal S128x16 .f32) (n : Fin 2048) (e : Fin 16) :
    probs (scores x R) (ix2 n e) = prob (score (fun d => x (ix2 n d)) fun d k => R (ix2 d k)) e := by
  unfold probs weights scores
  pointwise
  rw [negInf]
  rfl

theorem col_apply (ri : IVec S2048x1 32) (n : Fin 2048) : col ri (ix2 n 0) = ri (ix2 n 0) := by
  unfold col
  pointwise

theorem pairs_fst (ri : IVec S2048x1 32) (n : Fin 2048) : pairs ri (ix2 n 0) = BitVec.ofNat 32 n.val := by
  unfold pairs
  pointwise

theorem pairs_snd (ri : IVec S2048x1 32) (n : Fin 2048) : pairs ri (ix2 n 1) = ri (ix2 n 0) := by
  unfold pairs
  pointwise
  exact col_apply ri n

/-! ## The reads of the tables -/

/-- A small number's word, read with its sign. -/
theorem toInt_word {k : Nat} (h : k < 2147483648) : (BitVec.ofNat 32 k).toInt = k := by
  rw [BitVec.toInt_ofNat', Int.bmod_eq_of_le] <;> omega

/-- A number's word, clamped to a bound that it doesn't pass, is the number. -/
theorem clamp_word {k N : Nat} (h : k ≤ N) (hN : N < 2147483648) : min (BitVec.ofNat 32 k).toInt.toNat N = k := by
  rw [toInt_word (by omega)]
  omega

theorem siIdx_prob (n : Fin 2048) (k : Fin 2) :
    gather_S2048x16_S2048x2_S2048_n_01_n_n_01_1_11.siIdx (ix1 n) k = ix2 n k := by
  funext b
  refine Fin.ext ?_
  match b with
  | ⟨0, _⟩ => rfl
  | ⟨1, _⟩ => rfl

/-- The read of the probabilities at a token's number and an expert's. -/
theorem gather_prob {α : Type} (X : S2048x16.Idx → α) (I : IVec S2048x2 32) (n : Fin 2048) (e : Fin 16)
    (h0 : I (ix2 n 0) = BitVec.ofNat 32 n.val) (h1 : I (ix2 n 1) = BitVec.ofNat 32 e.val) :
    Host.gather gather_S2048x16_S2048x2_S2048_n_01_n_n_01_1_11 X I (ix1 n) = X (ix2 n e) := by
  refine congrArg X (funext fun a => Fin.ext ?_)
  match a with
  | ⟨0, _⟩ =>
    refine Eq.trans (b := min (I (ix2 n 0)).toInt.toNat 2047) ?_ ?_
    · rw [← siIdx_prob n 0]; rfl
    · rw [h0]; exact clamp_word (by omega) (by omega)
  | ⟨1, _⟩ =>
    refine Eq.trans (b := min (I (ix2 n 1)).toInt.toNat 15) ?_ ?_
    · rw [← siIdx_prob n 1]; rfl
    · rw [h1]; exact clamp_word (by omega) (by omega)

theorem siIdx_expert (n : Fin 2048) (d : Fin 128) (j : Fin 256) :
    gather_S16x128x256_S2048x1_S2048x128x256_12_0_n_n_0_1_1128256.siIdx (ix3 n d j) (0 : Fin 1) = ix2 n 0 := by
  funext b
  refine Fin.ext ?_
  match b with
  | ⟨0, _⟩ => rfl
  | ⟨1, _⟩ => rfl

/-- The read of the experts' weights at a token's expert. -/
theorem gather_expert {α : Type} (X : S16x128x256.Idx → α) (I : IVec S2048x1 32) (n : Fin 2048) (e : Fin 16)
    (h : I (ix2 n 0) = BitVec.ofNat 32 e.val) (d : Fin 128) (j : Fin 256) :
    Host.gather gather_S16x128x256_S2048x1_S2048x128x256_12_0_n_n_0_1_1128256 X I (ix3 n d j) = X (ix3 e d j) := by
  refine congrArg X (funext fun a => Fin.ext ?_)
  match a with
  | ⟨0, _⟩ =>
    refine Eq.trans (b := min (I (ix2 n 0)).toInt.toNat 15) ?_ ?_
    · rw [← siIdx_expert n d j]; rfl
    · rw [h]; exact clamp_word (by omega) (by omega)
  | ⟨1, _⟩ => exact Nat.zero_add _
  | ⟨2, _⟩ => exact Nat.zero_add _

/-! ## Which tokens have an expert -/

/-- The two comparisons with the bounds of a table that ends at `N`. -/
def between (a N : BitVec 32) : BitVec 1 := IntOp.andi (IntOp.cmpi .sge a 0#32) (IntOp.cmpi .sle a N)

/-- A number that isn't beyond the end passes both. -/
theorem between_word {k N : Nat} (h : k ≤ N) (hN : N < 2147483648) : between (BitVec.ofNat 32 k) (BitVec.ofNat 32 N) = 1#1 := by
  have h1 : (0#32).sle (BitVec.ofNat 32 k) = true := by
    rw [BitVec.sle_iff_toInt_le, toInt_word (show k < _ by omega)]; exact Int.natCast_nonneg k
  have h2 : (BitVec.ofNat 32 k).sle (BitVec.ofNat 32 N) = true := by
    rw [BitVec.sle_iff_toInt_le, toInt_word (by omega), toInt_word hN]; omega
  show BitVec.ofBool ((0#32).sle (BitVec.ofNat 32 k)) &&& BitVec.ofBool ((BitVec.ofNat 32 k).sle (BitVec.ofNat 32 N)) = 1#1
  rw [h1, h2]; rfl

/-- A word that passes both with the last expert is an expert's. -/
theorem expert_of_between {a : BitVec 32} (h : between a 15#32 = 1#1) : ∃ e : Fin 16, a = BitVec.ofNat 32 e.val := by
  have hab : (0#32).sle a = true ∧ a.sle 15#32 = true := by
    change BitVec.ofBool ((0#32).sle a) &&& BitVec.ofBool (a.sle 15#32) = 1#1 at h
    generalize (0#32).sle a = p at h ⊢
    generalize a.sle 15#32 = q at h ⊢
    revert h; revert p q; decide
  rw [BitVec.sle_iff_toInt_le, BitVec.sle_iff_toInt_le] at hab
  obtain ⟨h0, h1⟩ := hab
  have e0 : (0#32).toInt = 0 := rfl
  have e1 : (15#32).toInt = 15 := rfl
  rw [e0] at h0; rw [e1] at h1
  refine ⟨⟨a.toInt.toNat, by omega⟩, ?_⟩
  refine BitVec.eq_of_toInt_eq ?_
  rw [toInt_word (by show a.toInt.toNat < _; omega)]
  show a.toInt = (a.toInt.toNat : Int)
  omega

theorem expertIn_apply (ri : IVec S2048x1 32) (n : Fin 2048) : expertIn ri (ix1 n) = IntOp.andi (between (ri (ix2 n 0)) 15#32) 1#1 := by
  rw [← col_apply ri n]
  unfold expertIn
  pointwise
  rfl

theorem pairIn_apply (ri : IVec S2048x1 32) (n : Fin 2048) :
    pairIn ri (ix1 n) = IntOp.andi (between (BitVec.ofNat 32 n.val) 2047#32) (IntOp.andi (between (ri (ix2 n 0)) 15#32) 1#1) := by
  rw [← pairs_fst ri n, ← pairs_snd ri n]
  unfold pairIn
  pointwise
  rfl

/-! ## The result -/

theorem joined_apply (x : FVec Ideal S2048x128 .f32) (S : FVec Ideal S128x256 .f32) (p : FVec Ideal S2048 .f32)
    (D : FVec Ideal S2048x128x256 .f32) (n : Fin 2048) (j : Fin 256) :
    joined x S p D (ix2 n j) = (∑ d, x (ix2 n d) * S (ix2 d j)) + p (ix1 n) * ∑ d, x (ix2 n d) * D (ix3 n d j) := by
  unfold joined
  pointwise

/-- The drawn weights of a token with an expert are the expert's. -/
theorem drawn_in (W : FVec Ideal S16x128x256 .f32) (ri : IVec S2048x1 32) (n : Fin 2048) (e : Fin 16)
    (h : ri (ix2 n 0) = BitVec.ofNat 32 e.val) (d : Fin 128) (j : Fin 256) : drawn W ri (ix3 n d j) = W (ix3 e d j) := by
  have hb : between (ri (ix2 n 0)) 15#32 = 1#1 := by rw [h]; exact between_word (by omega) (by omega)
  unfold drawn
  pointwise
  rw [expertIn_apply, hb]
  exact gather_expert W _ n e ((col_apply ri n).trans h) d j

/-- The drawn weights of a token without one are zero. -/
theorem drawn_out (W : FVec Ideal S16x128x256 .f32) (ri : IVec S2048x1 32) (n : Fin 2048)
    (h : ¬ ∃ e : Fin 16, ri (ix2 n 0) = BitVec.ofNat 32 e.val) (d : Fin 128) (j : Fin 256) : drawn W ri (ix3 n d j) = 0 := by
  have hb : between (ri (ix2 n 0)) 15#32 = 0#1 := by
    have h' := mt expert_of_between h
    generalize between (ri (ix2 n 0)) 15#32 = b at h' ⊢
    revert h'; revert b; decide
  unfold drawn
  pointwise
  rw [expertIn_apply, hb]
  rfl

/-- The picked probability of a token with an expert is that expert's. -/
theorem picked_in (P : FVec Ideal S2048x16 .f32) (ri : IVec S2048x1 32) (n : Fin 2048) (e : Fin 16)
    (h : ri (ix2 n 0) = BitVec.ofNat 32 e.val) : picked P ri (ix1 n) = P (ix2 n e) := by
  have hb : between (ri (ix2 n 0)) 15#32 = 1#1 := by rw [h]; exact between_word (by omega) (by omega)
  have hn : between (BitVec.ofNat 32 n.val) 2047#32 = 1#1 := between_word (by omega) (by omega)
  unfold picked
  pointwise
  rw [pairIn_apply, hb, hn]
  exact gather_prob P _ n e (pairs_fst ri n) ((pairs_snd ri n).trans h)

/-- The reference's result at a row and a column: the row's token. -/
theorem whole_apply (x : FVec Ideal S2048x128 .f32) (R : FVec Ideal S128x16 .f32) (ri : IVec S2048x1 32)
    (W : FVec Ideal S16x128x256 .f32) (S : FVec Ideal S128x256 .f32) (n : Fin 2048) (j : Fin 256) :
    whole x R ri W S (ix2 n j) = token (fun d => x (ix2 n d)) (prob (score (fun d => x (ix2 n d)) fun d k => R (ix2 d k)))
      (ri (ix2 n 0)) (fun e d => W (ix3 e d j)) (fun d => S (ix2 d j)) := by
  unfold whole token
  rw [joined_apply]
  refine congrArg (_ + ·) ?_
  by_cases h : ∃ e : Fin 16, ri (ix2 n 0) = BitVec.ofNat 32 e.val
  · obtain ⟨e, he⟩ := h
    rw [Finset.sum_eq_single e, if_pos he, picked_in _ ri n e he, probs_apply]
    · simp only [drawn_in W ri n e he]
    · exact fun k _ hk => if_neg fun hk' => hk (word_inj (hk'.symm.trans he))
    · exact fun hn => absurd (Finset.mem_univ e) hn
  · rw [Finset.sum_eq_zero fun e _ => if_neg fun he => h ⟨e, he⟩]
    simp only [drawn_out W ri n h, mul_zero, Finset.sum_const_zero]

/-- The generated run, its result named. -/
theorem run_whole (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v42) = whole (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.ReferenceIdeal.Value.run (F := Ideal) m ρ

end Cert.Moe.Ref

end
-- ==== Proof.Algebraic.lean ====
/-
# 01_k — the value claim

Each device's result is its block of the reference's, where the tokens and the router's weights are finite.
-/
module

public import proofs.«01_k».proof.Proof.Frames
public import proofs.«01_k».proof.Proof.RefValue
public import Idealize.ShloMosaic.Lib.Pipeline.ValueKit.Geometry

@[expose] public section

set_option maxRecDepth 16384

noncomputable section

namespace Cert.Moe

open Cert.KernelIdeal Cert.KernelIdeal.Gen
open Idealize.ShloMosaic Idealize.ShloMosaic.TcCoe Idealize.SL.Sem

/-! ## What the precondition says -/

/-- The side conditions of the precondition's text over one device's arrays. -/
theorem finite_facts : Cert.Pre_finite_KernelIdeal.Facts := ⟨by decide, by decide⟩
/-- Those over the whole arrays. -/
theorem finite_facts_whole : Cert.Pre_finite_ReferenceIdeal.Facts := ⟨by decide, by decide⟩

theorem posInf : Ideal.ofBits .f32 0x7F800000#32 = ⊤ := by simp [Ideal.ofBits, Ideal.ieee]

attribute [local instance] finite_facts in
/-- Where the precondition is all ones, the tokens and the router's weights are finite. -/
theorem finite_of_pre (x : FVec Ideal S256x128 .f32) (R : FVec Ideal S128x16 .f32) (ri : IVec S256x1 32) (W : FVec Ideal S2x128x256 .f32)
    (S : FVec Ideal S128x256 .f32) (hx : (Cert.Pre_finite_KernelIdeal.fn x R ri W S).1 = fun _ => 1#1)
    (hR : (Cert.Pre_finite_KernelIdeal.fn x R ri W S).2 = fun _ => 1#1) : (∀ i, Finite (x i)) ∧ ∀ i, Finite (R i) := by
  have one : ∀ a : EReal, Ideal.cmp .olt (max a (-a)) (Ideal.ofBits .f32 0x7F800000#32) = 1#1 → Finite a := fun a h => by
    rw [posInf] at h
    refine finite_of_abs_lt ?_
    by_contra hn
    simp [Ideal.cmp, hn] at h
  exact ⟨fun i => one _ (congrFun hx i), fun i => one _ (congrFun hR i)⟩

/-! ## What the arrays hold -/

variable (m : (ℓ : Loc nD τ sig) → Buf (Elt Ideal) ℓ)

/-- A window that is its whole array stages the array. -/
theorem emb_whole (w : Pipeline.Window sig grid0) (t : Fin grid0.N) (h : ∀ a, w.index t a = 0) (y : (w.xblock (grid0.coords t)).Idx)
    (a : Fin w.shape.rank) : ((w.rect t).emb y a).val = (y a).val :=
  Pipeline.Window.rect_emb_val_of_index_zero w t a (h a) y

/-- The tokens a device stages are its array of them, -/
theorem inX_eq (c : Dev nD) : inX m c = m ((c : Thread nD τ).loc main_arg0) :=
  funext fun y => congrArg (m ((c : Thread nD τ).loc main_arg0)) (funext fun a => Fin.ext (emb_whole win0_0 (0 : Fin 1) (fun _ => rfl) y a))
/-- so are the router's weights, -/
theorem inR_eq (c : Dev nD) : inR m c = m ((c : Thread nD τ).loc main_arg1) :=
  funext fun y => congrArg (m ((c : Thread nD τ).loc main_arg1)) (funext fun a => Fin.ext (emb_whole win0_1 (0 : Fin 1) (fun _ => rfl) y a))
/-- the tokens' experts, -/
theorem inI_eq (c : Dev nD) : inI m c = m ((c : Thread nD τ).loc main_arg2) :=
  funext fun y => congrArg (m ((c : Thread nD τ).loc main_arg2)) (funext fun a => Fin.ext (emb_whole win0_2 (0 : Fin 1) (fun _ => rfl) y a))
/-- the device's share, -/
theorem inW_eq (c : Dev nD) : inW m c = m ((c : Thread nD τ).loc main_arg3) :=
  funext fun y => congrArg (m ((c : Thread nD τ).loc main_arg3)) (funext fun a => Fin.ext (emb_whole win0_3 (0 : Fin 1) (fun _ => rfl) y a))
/-- and the shared weights. -/
theorem inS_eq (c : Dev nD) : inS m c = m ((c : Thread nD τ).loc main_arg4) :=
  funext fun y => congrArg (m ((c : Thread nD τ).loc main_arg4)) (funext fun a => Fin.ext (emb_whole win0_4 (0 : Fin 1) (fun _ => rfl) y a))

/-- The result's array ends at what the kernel leaves. -/
theorem final_out (c : Dev nD) : finalA m c 5 = outAt m c :=
  (dats m 0 c).arrAt_eq_of_after_last (5 : Fin 6) (0 : Fin 1)
    ⟨flush0_5 (0 : Fin 1), fun t _ => Subsingleton.elim (α := Fin 1) t 0, fun _ => ⟨rfl, rfl⟩⟩ _ fun j => rfl

/-! ## The blocks at an index -/

/-- The whole array's row that is row `i` of device `c`'s block. -/
def rowOf (c : Fin 8) (i : Fin 256) : Fin 2048 := ⟨c.val * 256 + i.val, by omega⟩

/-- A block of rows, at a row and a column. -/
theorem block_rows {α : Type} {n : Nat} (c : Fin 8) (v : (⟨2, ![2048, n]⟩ : Shape).Idx → α)
    (h : Layout.Tiles ⟨2, ![256, n]⟩ ⟨2, ![2048, n]⟩ 0 8) (i : Fin 256) (j : Fin n) :
    Layout.block ⟨2, ![256, n]⟩ ⟨2, ![2048, n]⟩ 0 8 c v h (ix2 i j) = v (ix2 (rowOf c i) j) := by
  refine congrArg v (funext fun a => ?_)
  match a with
  | ⟨0, _⟩ => rfl
  | ⟨1, _⟩ => rfl

/-- A block of experts: the device's first or second is the expert of that number. -/
theorem block_experts {α : Type} (c : Fin 8) (v : (⟨3, ![16, 128, 256]⟩ : Shape).Idx → α)
    (h : Layout.Tiles ⟨3, ![2, 128, 256]⟩ ⟨3, ![16, 128, 256]⟩ 0 8) (k : Fin 2) (d : Fin 128) (j : Fin 256) :
    Layout.block ⟨3, ![2, 128, 256]⟩ ⟨3, ![16, 128, 256]⟩ 0 8 c v h (ix3 k d j) = v (ix3 (exn c k) d j) := by
  refine congrArg v (funext fun a => ?_)
  match a with
  | ⟨0, _⟩ => rfl
  | ⟨1, _⟩ => rfl
  | ⟨2, _⟩ => rfl

/-! ## The result -/

/-- Where the devices hold the blocks of the reference's arguments, and the tokens and the router's weights are finite, what
    the kernel leaves on a device is its block of the reference's result. -/
theorem out_eq (x : (⟨2, ![2048, 128]⟩ : Shape).Idx → EReal) (R : FVec Ideal S128x16 .f32) (ri : (⟨2, ![2048, 1]⟩ : Shape).Idx → BitVec 32)
    (W : (⟨3, ![16, 128, 256]⟩ : Shape).Idx → EReal) (S : FVec Ideal S128x256 .f32)
    (hX : ∀ c, inX m c = Layout.block ⟨2, ![256, 128]⟩ ⟨2, ![2048, 128]⟩ 0 8 c x) (hR : ∀ c, inR m c = R)
    (hI : ∀ c, inI m c = Layout.block ⟨2, ![256, 1]⟩ ⟨2, ![2048, 1]⟩ 0 8 c ri)
    (hW : ∀ c, inW m c = Layout.block ⟨3, ![2, 128, 256]⟩ ⟨3, ![16, 128, 256]⟩ 0 8 c W) (hS : ∀ c, inS m c = S)
    (fX : ∀ c i, Finite (inX m c i)) (fR : ∀ c i, Finite (inR m c i)) (c : Dev nD) :
    outAt m c = Layout.block ⟨2, ![256, 256]⟩ ⟨2, ![2048, 256]⟩ 0 8 c (Ref.whole (F := Ideal) x R ri W S) := by
  funext y
  obtain ⟨i, j, rfl⟩ : ∃ i j : Fin 256, y = ix2 i j := ⟨y 0, y 1, funext fun a => match a with | ⟨0, _⟩ => rfl | ⟨1, _⟩ => rfl⟩
  have hw : ∀ o k d j, inW m o (ix3 k d j) = W (ix3 (exn o k) d j) := fun o k d j => by
    rw [hW o]; exact block_experts o W _ k d j
  have hx : ∀ d, inX m c (ix2 i d) = x (ix2 (rowOf c i) d) := fun d => by rw [hX c]; exact block_rows c x _ i d
  have hi : inI m c (ix2 i 0) = ri (ix2 (rowOf c i) 0) := by rw [hI c]; exact block_rows c ri _ i 0
  have hp := fun e => prob_real (score_finite (fun d => fX c (ix2 i d)) fun d e => fR c (ix2 d e)) e
  refine Eq.trans ?_ (block_rows c _ _ i j).symm
  rw [Ref.whole_apply]
  refine (Eq.trans ?_ (result_apply (inX m c) (inR m c) (inI m c) (inS m c) (inW m) (fun e d j => W (ix3 e d j)) c hw i j hp)).trans ?_
  · show result _ _ _ _ (inW m c) _ _ _ = _
    rw [origin_zero]
  · rw [hR c, hS c]
    unfold rowProb
    simp only [hx, hi, hR c]

/-! ## The claim -/

attribute [local instance] finite_facts

/-- Over finite tokens and router's weights the kernel and the reference end with the same result. -/
theorem algebraic : Cert.algebraic_KernelIdeal_ReferenceIdeal_pre_finite_KernelIdeal := fun m g m' g' hpre hblk => by
  have f := fun c => finite_of_pre _ _ _ _ _ (hpre c).1 (hpre c).2
  have ho := out_eq m _ _ _ _ _ (fun c => (inX_eq m c).trans (hblk c).1) (fun c => (inR_eq m c).trans (hblk c).2.1)
    (fun c => (inI_eq m c).trans (hblk c).2.2.1) (fun c => (inW_eq m c).trans (hblk c).2.2.2.1)
    (fun c => (inS_eq m c).trans (hblk c).2.2.2.2) (fun c i => by rw [inX_eq]; exact (f c).1 i) (fun c i => by rw [inR_eq]; exact (f c).2 i)
  refine ⟨_, (θ_run Cert.KernelIdeal.defs _ _).mono (fun r h c => ⟨(h.1 c 5).trans ((final_out m c).trans (ho c)), kept_of m r h.1 c⟩)
    (run_main m g), (θ_run Cert.ReferenceIdeal.defs _ _).mono (fun r h => h 0) (Ref.run_whole m' g')⟩

/-- The frame of the kernel, over finite tokens and router's weights. -/
theorem frame_finite : Cert.quiescent_KernelIdeal_pre_finite_KernelIdeal := fun m g _ => run_kept m g

attribute [local instance] finite_facts_whole in
/-- The frame of the reference, over the same. -/
theorem frame_finite_reference : Cert.quiescent_ReferenceIdeal_pre_finite_ReferenceIdeal := fun m g _ => frame_referenceIdeal m g trivial

end Cert.Moe

end
-- ==== Proof.lean ====
/-
# 01_k — the claim, assembled

The frames (Proof/Frames.lean), and the value claim with the frames over its precondition (Proof/Algebraic.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The stated claims: the frames, the kernel's text kept, and the kernel's result that of the reference. -/
theorem claim : Cert.Claim := ⟨Cert.Kernel.Gen.facts, Cert.KernelIdeal.Gen.facts, Cert.ReferenceIdeal.Gen.facts,
  Cert.Moe.finite_facts, Cert.Moe.finite_facts_whole, Cert.Moe.frame_kernel, Cert.Moe.frame_kernelIdeal, Cert.Moe.frame_finite,
  Cert.Moe.frame_referenceIdeal, Cert.Moe.frame_finite_reference, trivial, Cert.Moe.algebraic⟩

end Cert.Proof

end
